-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![2048, 128]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![2048, 128]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S16x128x128 : Shape := ⟨3, ![16, 128, 128]⟩
abbrev S_ : Shape := ⟨0, ![]⟩
abbrev S16 : Shape := ⟨1, ![16]⟩
abbrev S1x128x128 : Shape := ⟨3, ![1, 128, 128]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S128x128, .f32⟩
  | .local _ .vmem, ⟨8, _⟩ => ⟨S16x128x128, .bf16⟩
  | .local _ .vmem, ⟨9, _⟩ => ⟨S16x128x128, .bf16⟩
  | .local _ .vmem, ⟨10, _⟩ => ⟨S16x128x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_3371 : BitVec 32 := 0#32
  let c0_i32_3369 : BitVec 32 := 0#32
  let c1_i32_3370 : BitVec 32 := 1#32
  let v4516 : BitVec 32 := Scalar.muli c0_i32_3369 c1_i32_3370
  let v4517 : BitVec 32 := Scalar.addi c0_i32_3371 v4516
  v4517.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_3371 : BitVec 32 := 0#32
  let c1_i32_3369 : BitVec 32 := 1#32
  let c1_i32_3370 : BitVec 32 := 1#32
  let v4516 : BitVec 32 := Scalar.muli c1_i32_3369 c1_i32_3370
  let v4517 : BitVec 32 := Scalar.addi c0_i32_3371 v4516
  v4517.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_3371 : BitVec 32 := 0#32
  let c2_i32_3369 : BitVec 32 := 2#32
  let c1_i32_3370 : BitVec 32 := 1#32
  let v4516 : BitVec 32 := Scalar.muli c2_i32_3369 c1_i32_3370
  let v4517 : BitVec 32 := Scalar.addi c0_i32_3371 v4516
  v4517.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_3371 : BitVec 32 := 0#32
  let c3_i32_3369 : BitVec 32 := 3#32
  let c1_i32_3370 : BitVec 32 := 1#32
  let v4516 : BitVec 32 := Scalar.muli c3_i32_3369 c1_i32_3370
  let v4517 : BitVec 32 := Scalar.addi c0_i32_3371 v4516
  v4517.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_3371 : BitVec 32 := 0#32
  let c4_i32_3369 : BitVec 32 := 4#32
  let c1_i32_3370 : BitVec 32 := 1#32
  let v4516 : BitVec 32 := Scalar.muli c4_i32_3369 c1_i32_3370
  let v4517 : BitVec 32 := Scalar.addi c0_i32_3371 v4516
  v4517.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_3371 : BitVec 32 := 0#32
  let c5_i32_3369 : BitVec 32 := 5#32
  let c1_i32_3370 : BitVec 32 := 1#32
  let v4516 : BitVec 32 := Scalar.muli c5_i32_3369 c1_i32_3370
  let v4517 : BitVec 32 := Scalar.addi c0_i32_3371 v4516
  v4517.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_3371 : BitVec 32 := 0#32
  let c6_i32_3369 : BitVec 32 := 6#32
  let c1_i32_3370 : BitVec 32 := 1#32
  let v4516 : BitVec 32 := Scalar.muli c6_i32_3369 c1_i32_3370
  let v4517 : BitVec 32 := Scalar.addi c0_i32_3371 v4516
  v4517.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_3371 : BitVec 32 := 0#32
  let c7_i32_3369 : BitVec 32 := 7#32
  let c1_i32_3370 : BitVec 32 := 1#32
  let v4516 : BitVec 32 := Scalar.muli c7_i32_3369 c1_i32_3370
  let v4517 : BitVec 32 := Scalar.addi c0_i32_3371 v4516
  v4517.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_3371 : BitVec 32 := 0#32
  let c8_i32_3369 : BitVec 32 := 8#32
  let c1_i32_3370 : BitVec 32 := 1#32
  let v4516 : BitVec 32 := Scalar.muli c8_i32_3369 c1_i32_3370
  let v4517 : BitVec 32 := Scalar.addi c0_i32_3371 v4516
  v4517.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_3371 : BitVec 32 := 0#32
  let c9_i32_3369 : BitVec 32 := 9#32
  let c1_i32_3370 : BitVec 32 := 1#32
  let v4516 : BitVec 32 := Scalar.muli c9_i32_3369 c1_i32_3370
  let v4517 : BitVec 32 := Scalar.addi c0_i32_3371 v4516
  v4517.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_3371 : BitVec 32 := 0#32
  let c10_i32_3369 : BitVec 32 := 10#32
  let c1_i32_3370 : BitVec 32 := 1#32
  let v4516 : BitVec 32 := Scalar.muli c10_i32_3369 c1_i32_3370
  let v4517 : BitVec 32 := Scalar.addi c0_i32_3371 v4516
  v4517.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_3371 : BitVec 32 := 0#32
  let c11_i32_3369 : BitVec 32 := 11#32
  let c1_i32_3370 : BitVec 32 := 1#32
  let v4516 : BitVec 32 := Scalar.muli c11_i32_3369 c1_i32_3370
  let v4517 : BitVec 32 := Scalar.addi c0_i32_3371 v4516
  v4517.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_3371 : BitVec 32 := 0#32
  let c12_i32_3369 : BitVec 32 := 12#32
  let c1_i32_3370 : BitVec 32 := 1#32
  let v4516 : BitVec 32 := Scalar.muli c12_i32_3369 c1_i32_3370
  let v4517 : BitVec 32 := Scalar.addi c0_i32_3371 v4516
  v4517.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_3371 : BitVec 32 := 0#32
  let c13_i32_3369 : BitVec 32 := 13#32
  let c1_i32_3370 : BitVec 32 := 1#32
  let v4516 : BitVec 32 := Scalar.muli c13_i32_3369 c1_i32_3370
  let v4517 : BitVec 32 := Scalar.addi c0_i32_3371 v4516
  v4517.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_3371 : BitVec 32 := 0#32
  let c14_i32_3369 : BitVec 32 := 14#32
  let c1_i32_3370 : BitVec 32 := 1#32
  let v4516 : BitVec 32 := Scalar.muli c14_i32_3369 c1_i32_3370
  let v4517 : BitVec 32 := Scalar.addi c0_i32_3371 v4516
  v4517.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_3371 : BitVec 32 := 0#32
  let c15_i32_3369 : BitVec 32 := 15#32
  let c1_i32_3370 : BitVec 32 := 1#32
  let v4516 : BitVec 32 := Scalar.muli c15_i32_3369 c1_i32_3370
  let v4517 : BitVec 32 := Scalar.addi c0_i32_3371 v4516
  v4517.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v55 : Index := Scalar.indexCast v2
  let c0_19 : Index := 0#32
  let c0_20 : Index := 0#32
  ![v55.toNat, 0, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_30 : BitVec 32 := 0#32
  let c0_i32_31 : BitVec 32 := 0#32
  ![v2.toNat, 0, 0]
def k0_dev17 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v59 : BitVec 32 := Scalar.addi v2 c1_i32_21
  let c16_i32_22 : BitVec 32 := 16#32
  let c0_i32_23 : BitVec 32 := 0#32
  let v60 : BitVec 1 := Scalar.cmpi .eq c16_i32_22 c0_i32_23
  let c1_i32_24 : BitVec 32 := 1#32
  let v61 : BitVec 32 := Scalar.select v60 c1_i32_24 c16_i32_22
  let v62 : BitVec 32 := Scalar.remsi v59 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let c1_i32_28 : BitVec 32 := 1#32
  let v70 : BitVec 32 := Scalar.muli v69 c1_i32_28
  let v71 : BitVec 32 := Scalar.addi c0_i32_29 v70
  v71.toNat
def k0_dev18 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v78 : BitVec 32 := Scalar.addi v2 c2_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c1_i32_41 : BitVec 32 := 1#32
  let v89 : BitVec 32 := Scalar.muli v88 c1_i32_41
  let v90 : BitVec 32 := Scalar.addi c0_i32_42 v89
  v90.toNat
def k0_dev19 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_47 : BitVec 32 := 3#32
  let v97 : BitVec 32 := Scalar.addi v2 c3_i32_47
  let c16_i32_48 : BitVec 32 := 16#32
  let c0_i32_49 : BitVec 32 := 0#32
  let v98 : BitVec 1 := Scalar.cmpi .eq c16_i32_48 c0_i32_49
  let c1_i32_50 : BitVec 32 := 1#32
  let v99 : BitVec 32 := Scalar.select v98 c1_i32_50 c16_i32_48
  let v100 : BitVec 32 := Scalar.remsi v97 v99
  let c0_i32_52 : BitVec 32 := 0#32
  let v102 : BitVec 1 := Scalar.cmpi .slt v100 c0_i32_52
  let c0_i32_53 : BitVec 32 := 0#32
  let v103 : BitVec 1 := Scalar.cmpi .slt v99 c0_i32_53
  let v104 : BitVec 1 := Scalar.xori v102 v103
  let c0_i32_51 : BitVec 32 := 0#32
  let v101 : BitVec 1 := Scalar.cmpi .ne v100 c0_i32_51
  let v105 : BitVec 1 := Scalar.andi v104 v101
  let v106 : BitVec 32 := Scalar.addi v100 v99
  let v107 : BitVec 32 := Scalar.select v105 v106 v100
  let c1_i32_54 : BitVec 32 := 1#32
  let v108 : BitVec 32 := Scalar.muli v107 c1_i32_54
  let v109 : BitVec 32 := Scalar.addi c0_i32_55 v108
  v109.toNat
def k0_dev20 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v116 : BitVec 32 := Scalar.addi v2 c4_i32_60
  let c16_i32_61 : BitVec 32 := 16#32
  let c0_i32_62 : BitVec 32 := 0#32
  let v117 : BitVec 1 := Scalar.cmpi .eq c16_i32_61 c0_i32_62
  let c1_i32_63 : BitVec 32 := 1#32
  let v118 : BitVec 32 := Scalar.select v117 c1_i32_63 c16_i32_61
  let v119 : BitVec 32 := Scalar.remsi v116 v118
  let c0_i32_65 : BitVec 32 := 0#32
  let v121 : BitVec 1 := Scalar.cmpi .slt v119 c0_i32_65
  let c0_i32_66 : BitVec 32 := 0#32
  let v122 : BitVec 1 := Scalar.cmpi .slt v118 c0_i32_66
  let v123 : BitVec 1 := Scalar.xori v121 v122
  let c0_i32_64 : BitVec 32 := 0#32
  let v120 : BitVec 1 := Scalar.cmpi .ne v119 c0_i32_64
  let v124 : BitVec 1 := Scalar.andi v123 v120
  let v125 : BitVec 32 := Scalar.addi v119 v118
  let v126 : BitVec 32 := Scalar.select v124 v125 v119
  let c1_i32_67 : BitVec 32 := 1#32
  let v127 : BitVec 32 := Scalar.muli v126 c1_i32_67
  let v128 : BitVec 32 := Scalar.addi c0_i32_68 v127
  v128.toNat
def k0_dev21 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_73 : BitVec 32 := 5#32
  let v135 : BitVec 32 := Scalar.addi v2 c5_i32_73
  let c16_i32_74 : BitVec 32 := 16#32
  let c0_i32_75 : BitVec 32 := 0#32
  let v136 : BitVec 1 := Scalar.cmpi .eq c16_i32_74 c0_i32_75
  let c1_i32_76 : BitVec 32 := 1#32
  let v137 : BitVec 32 := Scalar.select v136 c1_i32_76 c16_i32_74
  let v138 : BitVec 32 := Scalar.remsi v135 v137
  let c0_i32_78 : BitVec 32 := 0#32
  let v140 : BitVec 1 := Scalar.cmpi .slt v138 c0_i32_78
  let c0_i32_79 : BitVec 32 := 0#32
  let v141 : BitVec 1 := Scalar.cmpi .slt v137 c0_i32_79
  let v142 : BitVec 1 := Scalar.xori v140 v141
  let c0_i32_77 : BitVec 32 := 0#32
  let v139 : BitVec 1 := Scalar.cmpi .ne v138 c0_i32_77
  let v143 : BitVec 1 := Scalar.andi v142 v139
  let v144 : BitVec 32 := Scalar.addi v138 v137
  let v145 : BitVec 32 := Scalar.select v143 v144 v138
  let c1_i32_80 : BitVec 32 := 1#32
  let v146 : BitVec 32 := Scalar.muli v145 c1_i32_80
  let v147 : BitVec 32 := Scalar.addi c0_i32_81 v146
  v147.toNat
def k0_dev22 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_86 : BitVec 32 := 6#32
  let v154 : BitVec 32 := Scalar.addi v2 c6_i32_86
  let c16_i32_87 : BitVec 32 := 16#32
  let c0_i32_88 : BitVec 32 := 0#32
  let v155 : BitVec 1 := Scalar.cmpi .eq c16_i32_87 c0_i32_88
  let c1_i32_89 : BitVec 32 := 1#32
  let v156 : BitVec 32 := Scalar.select v155 c1_i32_89 c16_i32_87
  let v157 : BitVec 32 := Scalar.remsi v154 v156
  let c0_i32_91 : BitVec 32 := 0#32
  let v159 : BitVec 1 := Scalar.cmpi .slt v157 c0_i32_91
  let c0_i32_92 : BitVec 32 := 0#32
  let v160 : BitVec 1 := Scalar.cmpi .slt v156 c0_i32_92
  let v161 : BitVec 1 := Scalar.xori v159 v160
  let c0_i32_90 : BitVec 32 := 0#32
  let v158 : BitVec 1 := Scalar.cmpi .ne v157 c0_i32_90
  let v162 : BitVec 1 := Scalar.andi v161 v158
  let v163 : BitVec 32 := Scalar.addi v157 v156
  let v164 : BitVec 32 := Scalar.select v162 v163 v157
  let c1_i32_93 : BitVec 32 := 1#32
  let v165 : BitVec 32 := Scalar.muli v164 c1_i32_93
  let v166 : BitVec 32 := Scalar.addi c0_i32_94 v165
  v166.toNat
def k0_dev23 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_99 : BitVec 32 := 7#32
  let v173 : BitVec 32 := Scalar.addi v2 c7_i32_99
  let c16_i32_100 : BitVec 32 := 16#32
  let c0_i32_101 : BitVec 32 := 0#32
  let v174 : BitVec 1 := Scalar.cmpi .eq c16_i32_100 c0_i32_101
  let c1_i32_102 : BitVec 32 := 1#32
  let v175 : BitVec 32 := Scalar.select v174 c1_i32_102 c16_i32_100
  let v176 : BitVec 32 := Scalar.remsi v173 v175
  let c0_i32_104 : BitVec 32 := 0#32
  let v178 : BitVec 1 := Scalar.cmpi .slt v176 c0_i32_104
  let c0_i32_105 : BitVec 32 := 0#32
  let v179 : BitVec 1 := Scalar.cmpi .slt v175 c0_i32_105
  let v180 : BitVec 1 := Scalar.xori v178 v179
  let c0_i32_103 : BitVec 32 := 0#32
  let v177 : BitVec 1 := Scalar.cmpi .ne v176 c0_i32_103
  let v181 : BitVec 1 := Scalar.andi v180 v177
  let v182 : BitVec 32 := Scalar.addi v176 v175
  let v183 : BitVec 32 := Scalar.select v181 v182 v176
  let c1_i32_106 : BitVec 32 := 1#32
  let v184 : BitVec 32 := Scalar.muli v183 c1_i32_106
  let v185 : BitVec 32 := Scalar.addi c0_i32_107 v184
  v185.toNat
def k0_dev24 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_112 : BitVec 32 := 8#32
  let v192 : BitVec 32 := Scalar.addi v2 c8_i32_112
  let c16_i32_113 : BitVec 32 := 16#32
  let c0_i32_114 : BitVec 32 := 0#32
  let v193 : BitVec 1 := Scalar.cmpi .eq c16_i32_113 c0_i32_114
  let c1_i32_115 : BitVec 32 := 1#32
  let v194 : BitVec 32 := Scalar.select v193 c1_i32_115 c16_i32_113
  let v195 : BitVec 32 := Scalar.remsi v192 v194
  let c0_i32_117 : BitVec 32 := 0#32
  let v197 : BitVec 1 := Scalar.cmpi .slt v195 c0_i32_117
  let c0_i32_118 : BitVec 32 := 0#32
  let v198 : BitVec 1 := Scalar.cmpi .slt v194 c0_i32_118
  let v199 : BitVec 1 := Scalar.xori v197 v198
  let c0_i32_116 : BitVec 32 := 0#32
  let v196 : BitVec 1 := Scalar.cmpi .ne v195 c0_i32_116
  let v200 : BitVec 1 := Scalar.andi v199 v196
  let v201 : BitVec 32 := Scalar.addi v195 v194
  let v202 : BitVec 32 := Scalar.select v200 v201 v195
  let c1_i32_119 : BitVec 32 := 1#32
  let v203 : BitVec 32 := Scalar.muli v202 c1_i32_119
  let v204 : BitVec 32 := Scalar.addi c0_i32_120 v203
  v204.toNat
def k0_dev25 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_125 : BitVec 32 := 9#32
  let v211 : BitVec 32 := Scalar.addi v2 c9_i32_125
  let c16_i32_126 : BitVec 32 := 16#32
  let c0_i32_127 : BitVec 32 := 0#32
  let v212 : BitVec 1 := Scalar.cmpi .eq c16_i32_126 c0_i32_127
  let c1_i32_128 : BitVec 32 := 1#32
  let v213 : BitVec 32 := Scalar.select v212 c1_i32_128 c16_i32_126
  let v214 : BitVec 32 := Scalar.remsi v211 v213
  let c0_i32_130 : BitVec 32 := 0#32
  let v216 : BitVec 1 := Scalar.cmpi .slt v214 c0_i32_130
  let c0_i32_131 : BitVec 32 := 0#32
  let v217 : BitVec 1 := Scalar.cmpi .slt v213 c0_i32_131
  let v218 : BitVec 1 := Scalar.xori v216 v217
  let c0_i32_129 : BitVec 32 := 0#32
  let v215 : BitVec 1 := Scalar.cmpi .ne v214 c0_i32_129
  let v219 : BitVec 1 := Scalar.andi v218 v215
  let v220 : BitVec 32 := Scalar.addi v214 v213
  let v221 : BitVec 32 := Scalar.select v219 v220 v214
  let c1_i32_132 : BitVec 32 := 1#32
  let v222 : BitVec 32 := Scalar.muli v221 c1_i32_132
  let v223 : BitVec 32 := Scalar.addi c0_i32_133 v222
  v223.toNat
def k0_dev26 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_138 : BitVec 32 := 10#32
  let v230 : BitVec 32 := Scalar.addi v2 c10_i32_138
  let c16_i32_139 : BitVec 32 := 16#32
  let c0_i32_140 : BitVec 32 := 0#32
  let v231 : BitVec 1 := Scalar.cmpi .eq c16_i32_139 c0_i32_140
  let c1_i32_141 : BitVec 32 := 1#32
  let v232 : BitVec 32 := Scalar.select v231 c1_i32_141 c16_i32_139
  let v233 : BitVec 32 := Scalar.remsi v230 v232
  let c0_i32_143 : BitVec 32 := 0#32
  let v235 : BitVec 1 := Scalar.cmpi .slt v233 c0_i32_143
  let c0_i32_144 : BitVec 32 := 0#32
  let v236 : BitVec 1 := Scalar.cmpi .slt v232 c0_i32_144
  let v237 : BitVec 1 := Scalar.xori v235 v236
  let c0_i32_142 : BitVec 32 := 0#32
  let v234 : BitVec 1 := Scalar.cmpi .ne v233 c0_i32_142
  let v238 : BitVec 1 := Scalar.andi v237 v234
  let v239 : BitVec 32 := Scalar.addi v233 v232
  let v240 : BitVec 32 := Scalar.select v238 v239 v233
  let c1_i32_145 : BitVec 32 := 1#32
  let v241 : BitVec 32 := Scalar.muli v240 c1_i32_145
  let v242 : BitVec 32 := Scalar.addi c0_i32_146 v241
  v242.toNat
def k0_dev27 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_151 : BitVec 32 := 11#32
  let v249 : BitVec 32 := Scalar.addi v2 c11_i32_151
  let c16_i32_152 : BitVec 32 := 16#32
  let c0_i32_153 : BitVec 32 := 0#32
  let v250 : BitVec 1 := Scalar.cmpi .eq c16_i32_152 c0_i32_153
  let c1_i32_154 : BitVec 32 := 1#32
  let v251 : BitVec 32 := Scalar.select v250 c1_i32_154 c16_i32_152
  let v252 : BitVec 32 := Scalar.remsi v249 v251
  let c0_i32_156 : BitVec 32 := 0#32
  let v254 : BitVec 1 := Scalar.cmpi .slt v252 c0_i32_156
  let c0_i32_157 : BitVec 32 := 0#32
  let v255 : BitVec 1 := Scalar.cmpi .slt v251 c0_i32_157
  let v256 : BitVec 1 := Scalar.xori v254 v255
  let c0_i32_155 : BitVec 32 := 0#32
  let v253 : BitVec 1 := Scalar.cmpi .ne v252 c0_i32_155
  let v257 : BitVec 1 := Scalar.andi v256 v253
  let v258 : BitVec 32 := Scalar.addi v252 v251
  let v259 : BitVec 32 := Scalar.select v257 v258 v252
  let c1_i32_158 : BitVec 32 := 1#32
  let v260 : BitVec 32 := Scalar.muli v259 c1_i32_158
  let v261 : BitVec 32 := Scalar.addi c0_i32_159 v260
  v261.toNat
def k0_dev28 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_164 : BitVec 32 := 12#32
  let v268 : BitVec 32 := Scalar.addi v2 c12_i32_164
  let c16_i32_165 : BitVec 32 := 16#32
  let c0_i32_166 : BitVec 32 := 0#32
  let v269 : BitVec 1 := Scalar.cmpi .eq c16_i32_165 c0_i32_166
  let c1_i32_167 : BitVec 32 := 1#32
  let v270 : BitVec 32 := Scalar.select v269 c1_i32_167 c16_i32_165
  let v271 : BitVec 32 := Scalar.remsi v268 v270
  let c0_i32_169 : BitVec 32 := 0#32
  let v273 : BitVec 1 := Scalar.cmpi .slt v271 c0_i32_169
  let c0_i32_170 : BitVec 32 := 0#32
  let v274 : BitVec 1 := Scalar.cmpi .slt v270 c0_i32_170
  let v275 : BitVec 1 := Scalar.xori v273 v274
  let c0_i32_168 : BitVec 32 := 0#32
  let v272 : BitVec 1 := Scalar.cmpi .ne v271 c0_i32_168
  let v276 : BitVec 1 := Scalar.andi v275 v272
  let v277 : BitVec 32 := Scalar.addi v271 v270
  let v278 : BitVec 32 := Scalar.select v276 v277 v271
  let c1_i32_171 : BitVec 32 := 1#32
  let v279 : BitVec 32 := Scalar.muli v278 c1_i32_171
  let v280 : BitVec 32 := Scalar.addi c0_i32_172 v279
  v280.toNat
def k0_dev29 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_177 : BitVec 32 := 13#32
  let v287 : BitVec 32 := Scalar.addi v2 c13_i32_177
  let c16_i32_178 : BitVec 32 := 16#32
  let c0_i32_179 : BitVec 32 := 0#32
  let v288 : BitVec 1 := Scalar.cmpi .eq c16_i32_178 c0_i32_179
  let c1_i32_180 : BitVec 32 := 1#32
  let v289 : BitVec 32 := Scalar.select v288 c1_i32_180 c16_i32_178
  let v290 : BitVec 32 := Scalar.remsi v287 v289
  let c0_i32_182 : BitVec 32 := 0#32
  let v292 : BitVec 1 := Scalar.cmpi .slt v290 c0_i32_182
  let c0_i32_183 : BitVec 32 := 0#32
  let v293 : BitVec 1 := Scalar.cmpi .slt v289 c0_i32_183
  let v294 : BitVec 1 := Scalar.xori v292 v293
  let c0_i32_181 : BitVec 32 := 0#32
  let v291 : BitVec 1 := Scalar.cmpi .ne v290 c0_i32_181
  let v295 : BitVec 1 := Scalar.andi v294 v291
  let v296 : BitVec 32 := Scalar.addi v290 v289
  let v297 : BitVec 32 := Scalar.select v295 v296 v290
  let c1_i32_184 : BitVec 32 := 1#32
  let v298 : BitVec 32 := Scalar.muli v297 c1_i32_184
  let v299 : BitVec 32 := Scalar.addi c0_i32_185 v298
  v299.toNat
def k0_dev30 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_190 : BitVec 32 := 14#32
  let v306 : BitVec 32 := Scalar.addi v2 c14_i32_190
  let c16_i32_191 : BitVec 32 := 16#32
  let c0_i32_192 : BitVec 32 := 0#32
  let v307 : BitVec 1 := Scalar.cmpi .eq c16_i32_191 c0_i32_192
  let c1_i32_193 : BitVec 32 := 1#32
  let v308 : BitVec 32 := Scalar.select v307 c1_i32_193 c16_i32_191
  let v309 : BitVec 32 := Scalar.remsi v306 v308
  let c0_i32_195 : BitVec 32 := 0#32
  let v311 : BitVec 1 := Scalar.cmpi .slt v309 c0_i32_195
  let c0_i32_196 : BitVec 32 := 0#32
  let v312 : BitVec 1 := Scalar.cmpi .slt v308 c0_i32_196
  let v313 : BitVec 1 := Scalar.xori v311 v312
  let c0_i32_194 : BitVec 32 := 0#32
  let v310 : BitVec 1 := Scalar.cmpi .ne v309 c0_i32_194
  let v314 : BitVec 1 := Scalar.andi v313 v310
  let v315 : BitVec 32 := Scalar.addi v309 v308
  let v316 : BitVec 32 := Scalar.select v314 v315 v309
  let c1_i32_197 : BitVec 32 := 1#32
  let v317 : BitVec 32 := Scalar.muli v316 c1_i32_197
  let v318 : BitVec 32 := Scalar.addi c0_i32_198 v317
  v318.toNat
def k0_dev31 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_203 : BitVec 32 := 15#32
  let v325 : BitVec 32 := Scalar.addi v2 c15_i32_203
  let c16_i32_204 : BitVec 32 := 16#32
  let c0_i32_205 : BitVec 32 := 0#32
  let v326 : BitVec 1 := Scalar.cmpi .eq c16_i32_204 c0_i32_205
  let c1_i32_206 : BitVec 32 := 1#32
  let v327 : BitVec 32 := Scalar.select v326 c1_i32_206 c16_i32_204
  let v328 : BitVec 32 := Scalar.remsi v325 v327
  let c0_i32_208 : BitVec 32 := 0#32
  let v330 : BitVec 1 := Scalar.cmpi .slt v328 c0_i32_208
  let c0_i32_209 : BitVec 32 := 0#32
  let v331 : BitVec 1 := Scalar.cmpi .slt v327 c0_i32_209
  let v332 : BitVec 1 := Scalar.xori v330 v331
  let c0_i32_207 : BitVec 32 := 0#32
  let v329 : BitVec 1 := Scalar.cmpi .ne v328 c0_i32_207
  let v333 : BitVec 1 := Scalar.andi v332 v329
  let v334 : BitVec 32 := Scalar.addi v328 v327
  let v335 : BitVec 32 := Scalar.select v333 v334 v328
  let c1_i32_210 : BitVec 32 := 1#32
  let v336 : BitVec 32 := Scalar.muli v335 c1_i32_210
  let v337 : BitVec 32 := Scalar.addi c0_i32_211 v336
  v337.toNat
def k0_off4 (d0 : Dev nD) (c1_i32_230 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v368 : BitVec 32 := Scalar.subi v2 c1_i32_230
  let c16_i32_231 : BitVec 32 := 16#32
  let c0_i32_232 : BitVec 32 := 0#32
  let v369 : BitVec 1 := Scalar.cmpi .eq c16_i32_231 c0_i32_232
  let c1_i32_233 : BitVec 32 := 1#32
  let v370 : BitVec 32 := Scalar.select v369 c1_i32_233 c16_i32_231
  let v371 : BitVec 32 := Scalar.remsi v368 v370
  let c0_i32_235 : BitVec 32 := 0#32
  let v373 : BitVec 1 := Scalar.cmpi .slt v371 c0_i32_235
  let c0_i32_236 : BitVec 32 := 0#32
  let v374 : BitVec 1 := Scalar.cmpi .slt v370 c0_i32_236
  let v375 : BitVec 1 := Scalar.xori v373 v374
  let c0_i32_234 : BitVec 32 := 0#32
  let v372 : BitVec 1 := Scalar.cmpi .ne v371 c0_i32_234
  let v376 : BitVec 1 := Scalar.andi v375 v372
  let v377 : BitVec 32 := Scalar.addi v371 v370
  let v378 : BitVec 32 := Scalar.select v376 v377 v371
  ![v378.toNat]
def k0_off5 (d0 : Dev nD) (c1_i32_230 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v368 : BitVec 32 := Scalar.subi v2 c1_i32_230
  let c16_i32_231 : BitVec 32 := 16#32
  let c0_i32_232 : BitVec 32 := 0#32
  let v369 : BitVec 1 := Scalar.cmpi .eq c16_i32_231 c0_i32_232
  let c1_i32_233 : BitVec 32 := 1#32
  let v370 : BitVec 32 := Scalar.select v369 c1_i32_233 c16_i32_231
  let v371 : BitVec 32 := Scalar.remsi v368 v370
  let c0_i32_235 : BitVec 32 := 0#32
  let v373 : BitVec 1 := Scalar.cmpi .slt v371 c0_i32_235
  let c0_i32_236 : BitVec 32 := 0#32
  let v374 : BitVec 1 := Scalar.cmpi .slt v370 c0_i32_236
  let v375 : BitVec 1 := Scalar.xori v373 v374
  let c0_i32_234 : BitVec 32 := 0#32
  let v372 : BitVec 1 := Scalar.cmpi .ne v371 c0_i32_234
  let v376 : BitVec 1 := Scalar.andi v375 v372
  let v377 : BitVec 32 := Scalar.addi v371 v370
  let v378 : BitVec 32 := Scalar.select v376 v377 v371
  let c0_i32_239 : BitVec 32 := 0#32
  let c0_i32_240 : BitVec 32 := 0#32
  ![v378.toNat, 0, 0]
def k0_off6 (d0 : Dev nD) (c1_i32_230 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v368 : BitVec 32 := Scalar.subi v2 c1_i32_230
  let c16_i32_231 : BitVec 32 := 16#32
  let c0_i32_232 : BitVec 32 := 0#32
  let v369 : BitVec 1 := Scalar.cmpi .eq c16_i32_231 c0_i32_232
  let c1_i32_233 : BitVec 32 := 1#32
  let v370 : BitVec 32 := Scalar.select v369 c1_i32_233 c16_i32_231
  let v371 : BitVec 32 := Scalar.remsi v368 v370
  let c0_i32_235 : BitVec 32 := 0#32
  let v373 : BitVec 1 := Scalar.cmpi .slt v371 c0_i32_235
  let c0_i32_236 : BitVec 32 := 0#32
  let v374 : BitVec 1 := Scalar.cmpi .slt v370 c0_i32_236
  let v375 : BitVec 1 := Scalar.xori v373 v374
  let c0_i32_234 : BitVec 32 := 0#32
  let v372 : BitVec 1 := Scalar.cmpi .ne v371 c0_i32_234
  let v376 : BitVec 1 := Scalar.andi v375 v372
  let v377 : BitVec 32 := Scalar.addi v371 v370
  let v378 : BitVec 32 := Scalar.select v376 v377 v371
  let v387 : Index := Scalar.indexCast v378
  let c0_243 : Index := 0#32
  let c0_244 : Index := 0#32
  ![v387.toNat, 0, 0]
def k0_dev32 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_230 : BitVec 32 := 1#32
  let v368 : BitVec 32 := Scalar.subi v2 c1_i32_230
  let c16_i32_231 : BitVec 32 := 16#32
  let c0_i32_232 : BitVec 32 := 0#32
  let v369 : BitVec 1 := Scalar.cmpi .eq c16_i32_231 c0_i32_232
  let c1_i32_233 : BitVec 32 := 1#32
  let v370 : BitVec 32 := Scalar.select v369 c1_i32_233 c16_i32_231
  let v371 : BitVec 32 := Scalar.remsi v368 v370
  let c0_i32_235 : BitVec 32 := 0#32
  let v373 : BitVec 1 := Scalar.cmpi .slt v371 c0_i32_235
  let c0_i32_236 : BitVec 32 := 0#32
  let v374 : BitVec 1 := Scalar.cmpi .slt v370 c0_i32_236
  let v375 : BitVec 1 := Scalar.xori v373 v374
  let c0_i32_234 : BitVec 32 := 0#32
  let v372 : BitVec 1 := Scalar.cmpi .ne v371 c0_i32_234
  let v376 : BitVec 1 := Scalar.andi v375 v372
  let v377 : BitVec 32 := Scalar.addi v371 v370
  let v378 : BitVec 32 := Scalar.select v376 v377 v371
  let c1_i32_254 : BitVec 32 := 1#32
  let v404 : BitVec 32 := Scalar.muli v378 c1_i32_254
  let v405 : BitVec 32 := Scalar.addi c0_i32_255 v404
  v405.toNat
def k0_dev33 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_260 : BitVec 32 := 2#32
  let v410 : BitVec 32 := Scalar.subi v2 c2_i32_260
  let c16_i32_261 : BitVec 32 := 16#32
  let c0_i32_262 : BitVec 32 := 0#32
  let v411 : BitVec 1 := Scalar.cmpi .eq c16_i32_261 c0_i32_262
  let c1_i32_263 : BitVec 32 := 1#32
  let v412 : BitVec 32 := Scalar.select v411 c1_i32_263 c16_i32_261
  let v413 : BitVec 32 := Scalar.remsi v410 v412
  let c0_i32_265 : BitVec 32 := 0#32
  let v415 : BitVec 1 := Scalar.cmpi .slt v413 c0_i32_265
  let c0_i32_266 : BitVec 32 := 0#32
  let v416 : BitVec 1 := Scalar.cmpi .slt v412 c0_i32_266
  let v417 : BitVec 1 := Scalar.xori v415 v416
  let c0_i32_264 : BitVec 32 := 0#32
  let v414 : BitVec 1 := Scalar.cmpi .ne v413 c0_i32_264
  let v418 : BitVec 1 := Scalar.andi v417 v414
  let v419 : BitVec 32 := Scalar.addi v413 v412
  let v420 : BitVec 32 := Scalar.select v418 v419 v413
  let c1_i32_284 : BitVec 32 := 1#32
  let v446 : BitVec 32 := Scalar.muli v420 c1_i32_284
  let v447 : BitVec 32 := Scalar.addi c0_i32_285 v446
  v447.toNat
def k0_dev34 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_290 : BitVec 32 := 3#32
  let v452 : BitVec 32 := Scalar.subi v2 c3_i32_290
  let c16_i32_291 : BitVec 32 := 16#32
  let c0_i32_292 : BitVec 32 := 0#32
  let v453 : BitVec 1 := Scalar.cmpi .eq c16_i32_291 c0_i32_292
  let c1_i32_293 : BitVec 32 := 1#32
  let v454 : BitVec 32 := Scalar.select v453 c1_i32_293 c16_i32_291
  let v455 : BitVec 32 := Scalar.remsi v452 v454
  let c0_i32_295 : BitVec 32 := 0#32
  let v457 : BitVec 1 := Scalar.cmpi .slt v455 c0_i32_295
  let c0_i32_296 : BitVec 32 := 0#32
  let v458 : BitVec 1 := Scalar.cmpi .slt v454 c0_i32_296
  let v459 : BitVec 1 := Scalar.xori v457 v458
  let c0_i32_294 : BitVec 32 := 0#32
  let v456 : BitVec 1 := Scalar.cmpi .ne v455 c0_i32_294
  let v460 : BitVec 1 := Scalar.andi v459 v456
  let v461 : BitVec 32 := Scalar.addi v455 v454
  let v462 : BitVec 32 := Scalar.select v460 v461 v455
  let c1_i32_314 : BitVec 32 := 1#32
  let v488 : BitVec 32 := Scalar.muli v462 c1_i32_314
  let v489 : BitVec 32 := Scalar.addi c0_i32_315 v488
  v489.toNat
def k0_dev35 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_320 : BitVec 32 := 4#32
  let v494 : BitVec 32 := Scalar.subi v2 c4_i32_320
  let c16_i32_321 : BitVec 32 := 16#32
  let c0_i32_322 : BitVec 32 := 0#32
  let v495 : BitVec 1 := Scalar.cmpi .eq c16_i32_321 c0_i32_322
  let c1_i32_323 : BitVec 32 := 1#32
  let v496 : BitVec 32 := Scalar.select v495 c1_i32_323 c16_i32_321
  let v497 : BitVec 32 := Scalar.remsi v494 v496
  let c0_i32_325 : BitVec 32 := 0#32
  let v499 : BitVec 1 := Scalar.cmpi .slt v497 c0_i32_325
  let c0_i32_326 : BitVec 32 := 0#32
  let v500 : BitVec 1 := Scalar.cmpi .slt v496 c0_i32_326
  let v501 : BitVec 1 := Scalar.xori v499 v500
  let c0_i32_324 : BitVec 32 := 0#32
  let v498 : BitVec 1 := Scalar.cmpi .ne v497 c0_i32_324
  let v502 : BitVec 1 := Scalar.andi v501 v498
  let v503 : BitVec 32 := Scalar.addi v497 v496
  let v504 : BitVec 32 := Scalar.select v502 v503 v497
  let c1_i32_344 : BitVec 32 := 1#32
  let v530 : BitVec 32 := Scalar.muli v504 c1_i32_344
  let v531 : BitVec 32 := Scalar.addi c0_i32_345 v530
  v531.toNat
def k0_dev36 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_350 : BitVec 32 := 5#32
  let v536 : BitVec 32 := Scalar.subi v2 c5_i32_350
  let c16_i32_351 : BitVec 32 := 16#32
  let c0_i32_352 : BitVec 32 := 0#32
  let v537 : BitVec 1 := Scalar.cmpi .eq c16_i32_351 c0_i32_352
  let c1_i32_353 : BitVec 32 := 1#32
  let v538 : BitVec 32 := Scalar.select v537 c1_i32_353 c16_i32_351
  let v539 : BitVec 32 := Scalar.remsi v536 v538
  let c0_i32_355 : BitVec 32 := 0#32
  let v541 : BitVec 1 := Scalar.cmpi .slt v539 c0_i32_355
  let c0_i32_356 : BitVec 32 := 0#32
  let v542 : BitVec 1 := Scalar.cmpi .slt v538 c0_i32_356
  let v543 : BitVec 1 := Scalar.xori v541 v542
  let c0_i32_354 : BitVec 32 := 0#32
  let v540 : BitVec 1 := Scalar.cmpi .ne v539 c0_i32_354
  let v544 : BitVec 1 := Scalar.andi v543 v540
  let v545 : BitVec 32 := Scalar.addi v539 v538
  let v546 : BitVec 32 := Scalar.select v544 v545 v539
  let c1_i32_374 : BitVec 32 := 1#32
  let v572 : BitVec 32 := Scalar.muli v546 c1_i32_374
  let v573 : BitVec 32 := Scalar.addi c0_i32_375 v572
  v573.toNat
def k0_dev37 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_380 : BitVec 32 := 6#32
  let v578 : BitVec 32 := Scalar.subi v2 c6_i32_380
  let c16_i32_381 : BitVec 32 := 16#32
  let c0_i32_382 : BitVec 32 := 0#32
  let v579 : BitVec 1 := Scalar.cmpi .eq c16_i32_381 c0_i32_382
  let c1_i32_383 : BitVec 32 := 1#32
  let v580 : BitVec 32 := Scalar.select v579 c1_i32_383 c16_i32_381
  let v581 : BitVec 32 := Scalar.remsi v578 v580
  let c0_i32_385 : BitVec 32 := 0#32
  let v583 : BitVec 1 := Scalar.cmpi .slt v581 c0_i32_385
  let c0_i32_386 : BitVec 32 := 0#32
  let v584 : BitVec 1 := Scalar.cmpi .slt v580 c0_i32_386
  let v585 : BitVec 1 := Scalar.xori v583 v584
  let c0_i32_384 : BitVec 32 := 0#32
  let v582 : BitVec 1 := Scalar.cmpi .ne v581 c0_i32_384
  let v586 : BitVec 1 := Scalar.andi v585 v582
  let v587 : BitVec 32 := Scalar.addi v581 v580
  let v588 : BitVec 32 := Scalar.select v586 v587 v581
  let c1_i32_404 : BitVec 32 := 1#32
  let v614 : BitVec 32 := Scalar.muli v588 c1_i32_404
  let v615 : BitVec 32 := Scalar.addi c0_i32_405 v614
  v615.toNat
def k0_dev38 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_410 : BitVec 32 := 7#32
  let v620 : BitVec 32 := Scalar.subi v2 c7_i32_410
  let c16_i32_411 : BitVec 32 := 16#32
  let c0_i32_412 : BitVec 32 := 0#32
  let v621 : BitVec 1 := Scalar.cmpi .eq c16_i32_411 c0_i32_412
  let c1_i32_413 : BitVec 32 := 1#32
  let v622 : BitVec 32 := Scalar.select v621 c1_i32_413 c16_i32_411
  let v623 : BitVec 32 := Scalar.remsi v620 v622
  let c0_i32_415 : BitVec 32 := 0#32
  let v625 : BitVec 1 := Scalar.cmpi .slt v623 c0_i32_415
  let c0_i32_416 : BitVec 32 := 0#32
  let v626 : BitVec 1 := Scalar.cmpi .slt v622 c0_i32_416
  let v627 : BitVec 1 := Scalar.xori v625 v626
  let c0_i32_414 : BitVec 32 := 0#32
  let v624 : BitVec 1 := Scalar.cmpi .ne v623 c0_i32_414
  let v628 : BitVec 1 := Scalar.andi v627 v624
  let v629 : BitVec 32 := Scalar.addi v623 v622
  let v630 : BitVec 32 := Scalar.select v628 v629 v623
  let c1_i32_434 : BitVec 32 := 1#32
  let v656 : BitVec 32 := Scalar.muli v630 c1_i32_434
  let v657 : BitVec 32 := Scalar.addi c0_i32_435 v656
  v657.toNat
def k0_dev39 (d0 : Dev nD) : Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_440 : BitVec 32 := 8#32
  let v662 : BitVec 32 := Scalar.subi v2 c8_i32_440
  let c16_i32_441 : BitVec 32 := 16#32
  let c0_i32_442 : BitVec 32 := 0#32
  let v663 : BitVec 1 := Scalar.cmpi .eq c16_i32_441 c0_i32_442
  let c1_i32_443 : BitVec 32 := 1#32
  let v664 : BitVec 32 := Scalar.select v663 c1_i32_443 c16_i32_441
  let v665 : BitVec 32 := Scalar.remsi v662 v664
  let c0_i32_445 : BitVec 32 := 0#32
  let v667 : BitVec 1 := Scalar.cmpi .slt v665 c0_i32_445
  let c0_i32_446 : BitVec 32 := 0#32
  let v668 : BitVec 1 := Scalar.cmpi .slt v664 c0_i32_446
  let v669 : BitVec 1 := Scalar.xori v667 v668
  let c0_i32_444 : BitVec 32 := 0#32
  let v666 : BitVec 1 := Scalar.cmpi .ne v665 c0_i32_444
  let v670 : BitVec 1 := Scalar.andi v669 v666
  let v671 : BitVec 32 := Scalar.addi v665 v664
  let v672 : BitVec 32 := Scalar.select v670 v671 v665
  let c1_i32_464 : BitVec 32 := 1#32
  let v698 : BitVec 32 := Scalar.muli v672 c1_i32_464
  let v699 : BitVec 32 := Scalar.addi c0_i32_465 v698
  v699.toNat
def k0_dev40 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_470 : BitVec 32 := 9#32
  let v704 : BitVec 32 := Scalar.subi v2 c9_i32_470
  let c16_i32_471 : BitVec 32 := 16#32
  let c0_i32_472 : BitVec 32 := 0#32
  let v705 : BitVec 1 := Scalar.cmpi .eq c16_i32_471 c0_i32_472
  let c1_i32_473 : BitVec 32 := 1#32
  let v706 : BitVec 32 := Scalar.select v705 c1_i32_473 c16_i32_471
  let v707 : BitVec 32 := Scalar.remsi v704 v706
  let c0_i32_475 : BitVec 32 := 0#32
  let v709 : BitVec 1 := Scalar.cmpi .slt v707 c0_i32_475
  let c0_i32_476 : BitVec 32 := 0#32
  let v710 : BitVec 1 := Scalar.cmpi .slt v706 c0_i32_476
  let v711 : BitVec 1 := Scalar.xori v709 v710
  let c0_i32_474 : BitVec 32 := 0#32
  let v708 : BitVec 1 := Scalar.cmpi .ne v707 c0_i32_474
  let v712 : BitVec 1 := Scalar.andi v711 v708
  let v713 : BitVec 32 := Scalar.addi v707 v706
  let v714 : BitVec 32 := Scalar.select v712 v713 v707
  let c1_i32_494 : BitVec 32 := 1#32
  let v740 : BitVec 32 := Scalar.muli v714 c1_i32_494
  let v741 : BitVec 32 := Scalar.addi c0_i32_495 v740
  v741.toNat
def k0_dev41 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_500 : BitVec 32 := 10#32
  let v746 : BitVec 32 := Scalar.subi v2 c10_i32_500
  let c16_i32_501 : BitVec 32 := 16#32
  let c0_i32_502 : BitVec 32 := 0#32
  let v747 : BitVec 1 := Scalar.cmpi .eq c16_i32_501 c0_i32_502
  let c1_i32_503 : BitVec 32 := 1#32
  let v748 : BitVec 32 := Scalar.select v747 c1_i32_503 c16_i32_501
  let v749 : BitVec 32 := Scalar.remsi v746 v748
  let c0_i32_505 : BitVec 32 := 0#32
  let v751 : BitVec 1 := Scalar.cmpi .slt v749 c0_i32_505
  let c0_i32_506 : BitVec 32 := 0#32
  let v752 : BitVec 1 := Scalar.cmpi .slt v748 c0_i32_506
  let v753 : BitVec 1 := Scalar.xori v751 v752
  let c0_i32_504 : BitVec 32 := 0#32
  let v750 : BitVec 1 := Scalar.cmpi .ne v749 c0_i32_504
  let v754 : BitVec 1 := Scalar.andi v753 v750
  let v755 : BitVec 32 := Scalar.addi v749 v748
  let v756 : BitVec 32 := Scalar.select v754 v755 v749
  let c1_i32_524 : BitVec 32 := 1#32
  let v782 : BitVec 32 := Scalar.muli v756 c1_i32_524
  let v783 : BitVec 32 := Scalar.addi c0_i32_525 v782
  v783.toNat
def k0_dev42 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_530 : BitVec 32 := 11#32
  let v788 : BitVec 32 := Scalar.subi v2 c11_i32_530
  let c16_i32_531 : BitVec 32 := 16#32
  let c0_i32_532 : BitVec 32 := 0#32
  let v789 : BitVec 1 := Scalar.cmpi .eq c16_i32_531 c0_i32_532
  let c1_i32_533 : BitVec 32 := 1#32
  let v790 : BitVec 32 := Scalar.select v789 c1_i32_533 c16_i32_531
  let v791 : BitVec 32 := Scalar.remsi v788 v790
  let c0_i32_535 : BitVec 32 := 0#32
  let v793 : BitVec 1 := Scalar.cmpi .slt v791 c0_i32_535
  let c0_i32_536 : BitVec 32 := 0#32
  let v794 : BitVec 1 := Scalar.cmpi .slt v790 c0_i32_536
  let v795 : BitVec 1 := Scalar.xori v793 v794
  let c0_i32_534 : BitVec 32 := 0#32
  let v792 : BitVec 1 := Scalar.cmpi .ne v791 c0_i32_534
  let v796 : BitVec 1 := Scalar.andi v795 v792
  let v797 : BitVec 32 := Scalar.addi v791 v790
  let v798 : BitVec 32 := Scalar.select v796 v797 v791
  let c1_i32_554 : BitVec 32 := 1#32
  let v824 : BitVec 32 := Scalar.muli v798 c1_i32_554
  let v825 : BitVec 32 := Scalar.addi c0_i32_555 v824
  v825.toNat
def k0_dev43 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_560 : BitVec 32 := 12#32
  let v830 : BitVec 32 := Scalar.subi v2 c12_i32_560
  let c16_i32_561 : BitVec 32 := 16#32
  let c0_i32_562 : BitVec 32 := 0#32
  let v831 : BitVec 1 := Scalar.cmpi .eq c16_i32_561 c0_i32_562
  let c1_i32_563 : BitVec 32 := 1#32
  let v832 : BitVec 32 := Scalar.select v831 c1_i32_563 c16_i32_561
  let v833 : BitVec 32 := Scalar.remsi v830 v832
  let c0_i32_565 : BitVec 32 := 0#32
  let v835 : BitVec 1 := Scalar.cmpi .slt v833 c0_i32_565
  let c0_i32_566 : BitVec 32 := 0#32
  let v836 : BitVec 1 := Scalar.cmpi .slt v832 c0_i32_566
  let v837 : BitVec 1 := Scalar.xori v835 v836
  let c0_i32_564 : BitVec 32 := 0#32
  let v834 : BitVec 1 := Scalar.cmpi .ne v833 c0_i32_564
  let v838 : BitVec 1 := Scalar.andi v837 v834
  let v839 : BitVec 32 := Scalar.addi v833 v832
  let v840 : BitVec 32 := Scalar.select v838 v839 v833
  let c1_i32_584 : BitVec 32 := 1#32
  let v866 : BitVec 32 := Scalar.muli v840 c1_i32_584
  let v867 : BitVec 32 := Scalar.addi c0_i32_585 v866
  v867.toNat
def k0_dev44 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_590 : BitVec 32 := 13#32
  let v872 : BitVec 32 := Scalar.subi v2 c13_i32_590
  let c16_i32_591 : BitVec 32 := 16#32
  let c0_i32_592 : BitVec 32 := 0#32
  let v873 : BitVec 1 := Scalar.cmpi .eq c16_i32_591 c0_i32_592
  let c1_i32_593 : BitVec 32 := 1#32
  let v874 : BitVec 32 := Scalar.select v873 c1_i32_593 c16_i32_591
  let v875 : BitVec 32 := Scalar.remsi v872 v874
  let c0_i32_595 : BitVec 32 := 0#32
  let v877 : BitVec 1 := Scalar.cmpi .slt v875 c0_i32_595
  let c0_i32_596 : BitVec 32 := 0#32
  let v878 : BitVec 1 := Scalar.cmpi .slt v874 c0_i32_596
  let v879 : BitVec 1 := Scalar.xori v877 v878
  let c0_i32_594 : BitVec 32 := 0#32
  let v876 : BitVec 1 := Scalar.cmpi .ne v875 c0_i32_594
  let v880 : BitVec 1 := Scalar.andi v879 v876
  let v881 : BitVec 32 := Scalar.addi v875 v874
  let v882 : BitVec 32 := Scalar.select v880 v881 v875
  let c1_i32_614 : BitVec 32 := 1#32
  let v908 : BitVec 32 := Scalar.muli v882 c1_i32_614
  let v909 : BitVec 32 := Scalar.addi c0_i32_615 v908
  v909.toNat
def k0_dev45 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_620 : BitVec 32 := 14#32
  let v914 : BitVec 32 := Scalar.subi v2 c14_i32_620
  let c16_i32_621 : BitVec 32 := 16#32
  let c0_i32_622 : BitVec 32 := 0#32
  let v915 : BitVec 1 := Scalar.cmpi .eq c16_i32_621 c0_i32_622
  let c1_i32_623 : BitVec 32 := 1#32
  let v916 : BitVec 32 := Scalar.select v915 c1_i32_623 c16_i32_621
  let v917 : BitVec 32 := Scalar.remsi v914 v916
  let c0_i32_625 : BitVec 32 := 0#32
  let v919 : BitVec 1 := Scalar.cmpi .slt v917 c0_i32_625
  let c0_i32_626 : BitVec 32 := 0#32
  let v920 : BitVec 1 := Scalar.cmpi .slt v916 c0_i32_626
  let v921 : BitVec 1 := Scalar.xori v919 v920
  let c0_i32_624 : BitVec 32 := 0#32
  let v918 : BitVec 1 := Scalar.cmpi .ne v917 c0_i32_624
  let v922 : BitVec 1 := Scalar.andi v921 v918
  let v923 : BitVec 32 := Scalar.addi v917 v916
  let v924 : BitVec 32 := Scalar.select v922 v923 v917
  let c1_i32_644 : BitVec 32 := 1#32
  let v950 : BitVec 32 := Scalar.muli v924 c1_i32_644
  let v951 : BitVec 32 := Scalar.addi c0_i32_645 v950
  v951.toNat
def k0_dev46 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_650 : BitVec 32 := 15#32
  let v956 : BitVec 32 := Scalar.subi v2 c15_i32_650
  let c16_i32_651 : BitVec 32 := 16#32
  let c0_i32_652 : BitVec 32 := 0#32
  let v957 : BitVec 1 := Scalar.cmpi .eq c16_i32_651 c0_i32_652
  let c1_i32_653 : BitVec 32 := 1#32
  let v958 : BitVec 32 := Scalar.select v957 c1_i32_653 c16_i32_651
  let v959 : BitVec 32 := Scalar.remsi v956 v958
  let c0_i32_655 : BitVec 32 := 0#32
  let v961 : BitVec 1 := Scalar.cmpi .slt v959 c0_i32_655
  let c0_i32_656 : BitVec 32 := 0#32
  let v962 : BitVec 1 := Scalar.cmpi .slt v958 c0_i32_656
  let v963 : BitVec 1 := Scalar.xori v961 v962
  let c0_i32_654 : BitVec 32 := 0#32
  let v960 : BitVec 1 := Scalar.cmpi .ne v959 c0_i32_654
  let v964 : BitVec 1 := Scalar.andi v963 v960
  let v965 : BitVec 32 := Scalar.addi v959 v958
  let v966 : BitVec 32 := Scalar.select v964 v965 v959
  let c1_i32_674 : BitVec 32 := 1#32
  let v992 : BitVec 32 := Scalar.muli v966 c1_i32_674
  let v993 : BitVec 32 := Scalar.addi c0_i32_675 v992
  v993.toNat
def k0_off7 (d0 : Dev nD) (c1_i32_680 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v998 : BitVec 32 := Scalar.addi v2 c1_i32_680
  let c16_i32_681 : BitVec 32 := 16#32
  let c0_i32_682 : BitVec 32 := 0#32
  let v999 : BitVec 1 := Scalar.cmpi .eq c16_i32_681 c0_i32_682
  let c1_i32_683 : BitVec 32 := 1#32
  let v1000 : BitVec 32 := Scalar.select v999 c1_i32_683 c16_i32_681
  let v1001 : BitVec 32 := Scalar.remsi v998 v1000
  let c0_i32_685 : BitVec 32 := 0#32
  let v1003 : BitVec 1 := Scalar.cmpi .slt v1001 c0_i32_685
  let c0_i32_686 : BitVec 32 := 0#32
  let v1004 : BitVec 1 := Scalar.cmpi .slt v1000 c0_i32_686
  let v1005 : BitVec 1 := Scalar.xori v1003 v1004
  let c0_i32_684 : BitVec 32 := 0#32
  let v1002 : BitVec 1 := Scalar.cmpi .ne v1001 c0_i32_684
  let v1006 : BitVec 1 := Scalar.andi v1005 v1002
  let v1007 : BitVec 32 := Scalar.addi v1001 v1000
  let v1008 : BitVec 32 := Scalar.select v1006 v1007 v1001
  let c0_i32_689 : BitVec 32 := 0#32
  let c0_i32_690 : BitVec 32 := 0#32
  ![v1008.toNat, 0, 0]
def k0_dev47 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1136 : BitVec 32 := 1#32
  let v1546 : BitVec 32 := Scalar.addi v2 c1_i32_1136
  let c16_i32_1137 : BitVec 32 := 16#32
  let c0_i32_1138 : BitVec 32 := 0#32
  let v1547 : BitVec 1 := Scalar.cmpi .eq c16_i32_1137 c0_i32_1138
  let c1_i32_1139 : BitVec 32 := 1#32
  let v1548 : BitVec 32 := Scalar.select v1547 c1_i32_1139 c16_i32_1137
  let v1549 : BitVec 32 := Scalar.remsi v1546 v1548
  let c0_i32_1141 : BitVec 32 := 0#32
  let v1551 : BitVec 1 := Scalar.cmpi .slt v1549 c0_i32_1141
  let c0_i32_1142 : BitVec 32 := 0#32
  let v1552 : BitVec 1 := Scalar.cmpi .slt v1548 c0_i32_1142
  let v1553 : BitVec 1 := Scalar.xori v1551 v1552
  let c0_i32_1140 : BitVec 32 := 0#32
  let v1550 : BitVec 1 := Scalar.cmpi .ne v1549 c0_i32_1140
  let v1554 : BitVec 1 := Scalar.andi v1553 v1550
  let v1555 : BitVec 32 := Scalar.addi v1549 v1548
  let v1556 : BitVec 32 := Scalar.select v1554 v1555 v1549
  let c1_i32_1143 : BitVec 32 := 1#32
  let v1557 : BitVec 32 := Scalar.muli v1556 c1_i32_1143
  let v1558 : BitVec 32 := Scalar.addi c0_i32_1144 v1557
  v1558.toNat
def k0_dev48 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1149 : BitVec 32 := 2#32
  let v1565 : BitVec 32 := Scalar.addi v2 c2_i32_1149
  let c16_i32_1150 : BitVec 32 := 16#32
  let c0_i32_1151 : BitVec 32 := 0#32
  let v1566 : BitVec 1 := Scalar.cmpi .eq c16_i32_1150 c0_i32_1151
  let c1_i32_1152 : BitVec 32 := 1#32
  let v1567 : BitVec 32 := Scalar.select v1566 c1_i32_1152 c16_i32_1150
  let v1568 : BitVec 32 := Scalar.remsi v1565 v1567
  let c0_i32_1154 : BitVec 32 := 0#32
  let v1570 : BitVec 1 := Scalar.cmpi .slt v1568 c0_i32_1154
  let c0_i32_1155 : BitVec 32 := 0#32
  let v1571 : BitVec 1 := Scalar.cmpi .slt v1567 c0_i32_1155
  let v1572 : BitVec 1 := Scalar.xori v1570 v1571
  let c0_i32_1153 : BitVec 32 := 0#32
  let v1569 : BitVec 1 := Scalar.cmpi .ne v1568 c0_i32_1153
  let v1573 : BitVec 1 := Scalar.andi v1572 v1569
  let v1574 : BitVec 32 := Scalar.addi v1568 v1567
  let v1575 : BitVec 32 := Scalar.select v1573 v1574 v1568
  let c1_i32_1156 : BitVec 32 := 1#32
  let v1576 : BitVec 32 := Scalar.muli v1575 c1_i32_1156
  let v1577 : BitVec 32 := Scalar.addi c0_i32_1157 v1576
  v1577.toNat
def k0_dev49 (d0 : Dev nD) : Nat :=
  let c0_i32_1170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1162 : BitVec 32 := 3#32
  let v1584 : BitVec 32 := Scalar.addi v2 c3_i32_1162
  let c16_i32_1163 : BitVec 32 := 16#32
  let c0_i32_1164 : BitVec 32 := 0#32
  let v1585 : BitVec 1 := Scalar.cmpi .eq c16_i32_1163 c0_i32_1164
  let c1_i32_1165 : BitVec 32 := 1#32
  let v1586 : BitVec 32 := Scalar.select v1585 c1_i32_1165 c16_i32_1163
  let v1587 : BitVec 32 := Scalar.remsi v1584 v1586
  let c0_i32_1167 : BitVec 32 := 0#32
  let v1589 : BitVec 1 := Scalar.cmpi .slt v1587 c0_i32_1167
  let c0_i32_1168 : BitVec 32 := 0#32
  let v1590 : BitVec 1 := Scalar.cmpi .slt v1586 c0_i32_1168
  let v1591 : BitVec 1 := Scalar.xori v1589 v1590
  let c0_i32_1166 : BitVec 32 := 0#32
  let v1588 : BitVec 1 := Scalar.cmpi .ne v1587 c0_i32_1166
  let v1592 : BitVec 1 := Scalar.andi v1591 v1588
  let v1593 : BitVec 32 := Scalar.addi v1587 v1586
  let v1594 : BitVec 32 := Scalar.select v1592 v1593 v1587
  let c1_i32_1169 : BitVec 32 := 1#32
  let v1595 : BitVec 32 := Scalar.muli v1594 c1_i32_1169
  let v1596 : BitVec 32 := Scalar.addi c0_i32_1170 v1595
  v1596.toNat
def k0_dev50 (d0 : Dev nD) : Nat :=
  let c0_i32_1183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1175 : BitVec 32 := 4#32
  let v1603 : BitVec 32 := Scalar.addi v2 c4_i32_1175
  let c16_i32_1176 : BitVec 32 := 16#32
  let c0_i32_1177 : BitVec 32 := 0#32
  let v1604 : BitVec 1 := Scalar.cmpi .eq c16_i32_1176 c0_i32_1177
  let c1_i32_1178 : BitVec 32 := 1#32
  let v1605 : BitVec 32 := Scalar.select v1604 c1_i32_1178 c16_i32_1176
  let v1606 : BitVec 32 := Scalar.remsi v1603 v1605
  let c0_i32_1180 : BitVec 32 := 0#32
  let v1608 : BitVec 1 := Scalar.cmpi .slt v1606 c0_i32_1180
  let c0_i32_1181 : BitVec 32 := 0#32
  let v1609 : BitVec 1 := Scalar.cmpi .slt v1605 c0_i32_1181
  let v1610 : BitVec 1 := Scalar.xori v1608 v1609
  let c0_i32_1179 : BitVec 32 := 0#32
  let v1607 : BitVec 1 := Scalar.cmpi .ne v1606 c0_i32_1179
  let v1611 : BitVec 1 := Scalar.andi v1610 v1607
  let v1612 : BitVec 32 := Scalar.addi v1606 v1605
  let v1613 : BitVec 32 := Scalar.select v1611 v1612 v1606
  let c1_i32_1182 : BitVec 32 := 1#32
  let v1614 : BitVec 32 := Scalar.muli v1613 c1_i32_1182
  let v1615 : BitVec 32 := Scalar.addi c0_i32_1183 v1614
  v1615.toNat
def k0_dev51 (d0 : Dev nD) : Nat :=
  let c0_i32_1196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1188 : BitVec 32 := 5#32
  let v1622 : BitVec 32 := Scalar.addi v2 c5_i32_1188
  let c16_i32_1189 : BitVec 32 := 16#32
  let c0_i32_1190 : BitVec 32 := 0#32
  let v1623 : BitVec 1 := Scalar.cmpi .eq c16_i32_1189 c0_i32_1190
  let c1_i32_1191 : BitVec 32 := 1#32
  let v1624 : BitVec 32 := Scalar.select v1623 c1_i32_1191 c16_i32_1189
  let v1625 : BitVec 32 := Scalar.remsi v1622 v1624
  let c0_i32_1193 : BitVec 32 := 0#32
  let v1627 : BitVec 1 := Scalar.cmpi .slt v1625 c0_i32_1193
  let c0_i32_1194 : BitVec 32 := 0#32
  let v1628 : BitVec 1 := Scalar.cmpi .slt v1624 c0_i32_1194
  let v1629 : BitVec 1 := Scalar.xori v1627 v1628
  let c0_i32_1192 : BitVec 32 := 0#32
  let v1626 : BitVec 1 := Scalar.cmpi .ne v1625 c0_i32_1192
  let v1630 : BitVec 1 := Scalar.andi v1629 v1626
  let v1631 : BitVec 32 := Scalar.addi v1625 v1624
  let v1632 : BitVec 32 := Scalar.select v1630 v1631 v1625
  let c1_i32_1195 : BitVec 32 := 1#32
  let v1633 : BitVec 32 := Scalar.muli v1632 c1_i32_1195
  let v1634 : BitVec 32 := Scalar.addi c0_i32_1196 v1633
  v1634.toNat
def k0_dev52 (d0 : Dev nD) : Nat :=
  let c0_i32_1209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1201 : BitVec 32 := 6#32
  let v1641 : BitVec 32 := Scalar.addi v2 c6_i32_1201
  let c16_i32_1202 : BitVec 32 := 16#32
  let c0_i32_1203 : BitVec 32 := 0#32
  let v1642 : BitVec 1 := Scalar.cmpi .eq c16_i32_1202 c0_i32_1203
  let c1_i32_1204 : BitVec 32 := 1#32
  let v1643 : BitVec 32 := Scalar.select v1642 c1_i32_1204 c16_i32_1202
  let v1644 : BitVec 32 := Scalar.remsi v1641 v1643
  let c0_i32_1206 : BitVec 32 := 0#32
  let v1646 : BitVec 1 := Scalar.cmpi .slt v1644 c0_i32_1206
  let c0_i32_1207 : BitVec 32 := 0#32
  let v1647 : BitVec 1 := Scalar.cmpi .slt v1643 c0_i32_1207
  let v1648 : BitVec 1 := Scalar.xori v1646 v1647
  let c0_i32_1205 : BitVec 32 := 0#32
  let v1645 : BitVec 1 := Scalar.cmpi .ne v1644 c0_i32_1205
  let v1649 : BitVec 1 := Scalar.andi v1648 v1645
  let v1650 : BitVec 32 := Scalar.addi v1644 v1643
  let v1651 : BitVec 32 := Scalar.select v1649 v1650 v1644
  let c1_i32_1208 : BitVec 32 := 1#32
  let v1652 : BitVec 32 := Scalar.muli v1651 c1_i32_1208
  let v1653 : BitVec 32 := Scalar.addi c0_i32_1209 v1652
  v1653.toNat
def k0_dev53 (d0 : Dev nD) : Nat :=
  let c0_i32_1222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1214 : BitVec 32 := 7#32
  let v1660 : BitVec 32 := Scalar.addi v2 c7_i32_1214
  let c16_i32_1215 : BitVec 32 := 16#32
  let c0_i32_1216 : BitVec 32 := 0#32
  let v1661 : BitVec 1 := Scalar.cmpi .eq c16_i32_1215 c0_i32_1216
  let c1_i32_1217 : BitVec 32 := 1#32
  let v1662 : BitVec 32 := Scalar.select v1661 c1_i32_1217 c16_i32_1215
  let v1663 : BitVec 32 := Scalar.remsi v1660 v1662
  let c0_i32_1219 : BitVec 32 := 0#32
  let v1665 : BitVec 1 := Scalar.cmpi .slt v1663 c0_i32_1219
  let c0_i32_1220 : BitVec 32 := 0#32
  let v1666 : BitVec 1 := Scalar.cmpi .slt v1662 c0_i32_1220
  let v1667 : BitVec 1 := Scalar.xori v1665 v1666
  let c0_i32_1218 : BitVec 32 := 0#32
  let v1664 : BitVec 1 := Scalar.cmpi .ne v1663 c0_i32_1218
  let v1668 : BitVec 1 := Scalar.andi v1667 v1664
  let v1669 : BitVec 32 := Scalar.addi v1663 v1662
  let v1670 : BitVec 32 := Scalar.select v1668 v1669 v1663
  let c1_i32_1221 : BitVec 32 := 1#32
  let v1671 : BitVec 32 := Scalar.muli v1670 c1_i32_1221
  let v1672 : BitVec 32 := Scalar.addi c0_i32_1222 v1671
  v1672.toNat
def k0_dev54 (d0 : Dev nD) : Nat :=
  let c0_i32_1235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1227 : BitVec 32 := 8#32
  let v1679 : BitVec 32 := Scalar.addi v2 c8_i32_1227
  let c16_i32_1228 : BitVec 32 := 16#32
  let c0_i32_1229 : BitVec 32 := 0#32
  let v1680 : BitVec 1 := Scalar.cmpi .eq c16_i32_1228 c0_i32_1229
  let c1_i32_1230 : BitVec 32 := 1#32
  let v1681 : BitVec 32 := Scalar.select v1680 c1_i32_1230 c16_i32_1228
  let v1682 : BitVec 32 := Scalar.remsi v1679 v1681
  let c0_i32_1232 : BitVec 32 := 0#32
  let v1684 : BitVec 1 := Scalar.cmpi .slt v1682 c0_i32_1232
  let c0_i32_1233 : BitVec 32 := 0#32
  let v1685 : BitVec 1 := Scalar.cmpi .slt v1681 c0_i32_1233
  let v1686 : BitVec 1 := Scalar.xori v1684 v1685
  let c0_i32_1231 : BitVec 32 := 0#32
  let v1683 : BitVec 1 := Scalar.cmpi .ne v1682 c0_i32_1231
  let v1687 : BitVec 1 := Scalar.andi v1686 v1683
  let v1688 : BitVec 32 := Scalar.addi v1682 v1681
  let v1689 : BitVec 32 := Scalar.select v1687 v1688 v1682
  let c1_i32_1234 : BitVec 32 := 1#32
  let v1690 : BitVec 32 := Scalar.muli v1689 c1_i32_1234
  let v1691 : BitVec 32 := Scalar.addi c0_i32_1235 v1690
  v1691.toNat
def k0_dev55 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1240 : BitVec 32 := 9#32
  let v1698 : BitVec 32 := Scalar.addi v2 c9_i32_1240
  let c16_i32_1241 : BitVec 32 := 16#32
  let c0_i32_1242 : BitVec 32 := 0#32
  let v1699 : BitVec 1 := Scalar.cmpi .eq c16_i32_1241 c0_i32_1242
  let c1_i32_1243 : BitVec 32 := 1#32
  let v1700 : BitVec 32 := Scalar.select v1699 c1_i32_1243 c16_i32_1241
  let v1701 : BitVec 32 := Scalar.remsi v1698 v1700
  let c0_i32_1245 : BitVec 32 := 0#32
  let v1703 : BitVec 1 := Scalar.cmpi .slt v1701 c0_i32_1245
  let c0_i32_1246 : BitVec 32 := 0#32
  let v1704 : BitVec 1 := Scalar.cmpi .slt v1700 c0_i32_1246
  let v1705 : BitVec 1 := Scalar.xori v1703 v1704
  let c0_i32_1244 : BitVec 32 := 0#32
  let v1702 : BitVec 1 := Scalar.cmpi .ne v1701 c0_i32_1244
  let v1706 : BitVec 1 := Scalar.andi v1705 v1702
  let v1707 : BitVec 32 := Scalar.addi v1701 v1700
  let v1708 : BitVec 32 := Scalar.select v1706 v1707 v1701
  let c1_i32_1247 : BitVec 32 := 1#32
  let v1709 : BitVec 32 := Scalar.muli v1708 c1_i32_1247
  let v1710 : BitVec 32 := Scalar.addi c0_i32_1248 v1709
  v1710.toNat
def k0_dev56 (d0 : Dev nD) : Nat :=
  let c0_i32_1261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1253 : BitVec 32 := 10#32
  let v1717 : BitVec 32 := Scalar.addi v2 c10_i32_1253
  let c16_i32_1254 : BitVec 32 := 16#32
  let c0_i32_1255 : BitVec 32 := 0#32
  let v1718 : BitVec 1 := Scalar.cmpi .eq c16_i32_1254 c0_i32_1255
  let c1_i32_1256 : BitVec 32 := 1#32
  let v1719 : BitVec 32 := Scalar.select v1718 c1_i32_1256 c16_i32_1254
  let v1720 : BitVec 32 := Scalar.remsi v1717 v1719
  let c0_i32_1258 : BitVec 32 := 0#32
  let v1722 : BitVec 1 := Scalar.cmpi .slt v1720 c0_i32_1258
  let c0_i32_1259 : BitVec 32 := 0#32
  let v1723 : BitVec 1 := Scalar.cmpi .slt v1719 c0_i32_1259
  let v1724 : BitVec 1 := Scalar.xori v1722 v1723
  let c0_i32_1257 : BitVec 32 := 0#32
  let v1721 : BitVec 1 := Scalar.cmpi .ne v1720 c0_i32_1257
  let v1725 : BitVec 1 := Scalar.andi v1724 v1721
  let v1726 : BitVec 32 := Scalar.addi v1720 v1719
  let v1727 : BitVec 32 := Scalar.select v1725 v1726 v1720
  let c1_i32_1260 : BitVec 32 := 1#32
  let v1728 : BitVec 32 := Scalar.muli v1727 c1_i32_1260
  let v1729 : BitVec 32 := Scalar.addi c0_i32_1261 v1728
  v1729.toNat
def k0_dev57 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1266 : BitVec 32 := 11#32
  let v1736 : BitVec 32 := Scalar.addi v2 c11_i32_1266
  let c16_i32_1267 : BitVec 32 := 16#32
  let c0_i32_1268 : BitVec 32 := 0#32
  let v1737 : BitVec 1 := Scalar.cmpi .eq c16_i32_1267 c0_i32_1268
  let c1_i32_1269 : BitVec 32 := 1#32
  let v1738 : BitVec 32 := Scalar.select v1737 c1_i32_1269 c16_i32_1267
  let v1739 : BitVec 32 := Scalar.remsi v1736 v1738
  let c0_i32_1271 : BitVec 32 := 0#32
  let v1741 : BitVec 1 := Scalar.cmpi .slt v1739 c0_i32_1271
  let c0_i32_1272 : BitVec 32 := 0#32
  let v1742 : BitVec 1 := Scalar.cmpi .slt v1738 c0_i32_1272
  let v1743 : BitVec 1 := Scalar.xori v1741 v1742
  let c0_i32_1270 : BitVec 32 := 0#32
  let v1740 : BitVec 1 := Scalar.cmpi .ne v1739 c0_i32_1270
  let v1744 : BitVec 1 := Scalar.andi v1743 v1740
  let v1745 : BitVec 32 := Scalar.addi v1739 v1738
  let v1746 : BitVec 32 := Scalar.select v1744 v1745 v1739
  let c1_i32_1273 : BitVec 32 := 1#32
  let v1747 : BitVec 32 := Scalar.muli v1746 c1_i32_1273
  let v1748 : BitVec 32 := Scalar.addi c0_i32_1274 v1747
  v1748.toNat
def k0_dev58 (d0 : Dev nD) : Nat :=
  let c0_i32_1287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1279 : BitVec 32 := 12#32
  let v1755 : BitVec 32 := Scalar.addi v2 c12_i32_1279
  let c16_i32_1280 : BitVec 32 := 16#32
  let c0_i32_1281 : BitVec 32 := 0#32
  let v1756 : BitVec 1 := Scalar.cmpi .eq c16_i32_1280 c0_i32_1281
  let c1_i32_1282 : BitVec 32 := 1#32
  let v1757 : BitVec 32 := Scalar.select v1756 c1_i32_1282 c16_i32_1280
  let v1758 : BitVec 32 := Scalar.remsi v1755 v1757
  let c0_i32_1284 : BitVec 32 := 0#32
  let v1760 : BitVec 1 := Scalar.cmpi .slt v1758 c0_i32_1284
  let c0_i32_1285 : BitVec 32 := 0#32
  let v1761 : BitVec 1 := Scalar.cmpi .slt v1757 c0_i32_1285
  let v1762 : BitVec 1 := Scalar.xori v1760 v1761
  let c0_i32_1283 : BitVec 32 := 0#32
  let v1759 : BitVec 1 := Scalar.cmpi .ne v1758 c0_i32_1283
  let v1763 : BitVec 1 := Scalar.andi v1762 v1759
  let v1764 : BitVec 32 := Scalar.addi v1758 v1757
  let v1765 : BitVec 32 := Scalar.select v1763 v1764 v1758
  let c1_i32_1286 : BitVec 32 := 1#32
  let v1766 : BitVec 32 := Scalar.muli v1765 c1_i32_1286
  let v1767 : BitVec 32 := Scalar.addi c0_i32_1287 v1766
  v1767.toNat
def k0_dev59 (d0 : Dev nD) : Nat :=
  let c0_i32_1300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1292 : BitVec 32 := 13#32
  let v1774 : BitVec 32 := Scalar.addi v2 c13_i32_1292
  let c16_i32_1293 : BitVec 32 := 16#32
  let c0_i32_1294 : BitVec 32 := 0#32
  let v1775 : BitVec 1 := Scalar.cmpi .eq c16_i32_1293 c0_i32_1294
  let c1_i32_1295 : BitVec 32 := 1#32
  let v1776 : BitVec 32 := Scalar.select v1775 c1_i32_1295 c16_i32_1293
  let v1777 : BitVec 32 := Scalar.remsi v1774 v1776
  let c0_i32_1297 : BitVec 32 := 0#32
  let v1779 : BitVec 1 := Scalar.cmpi .slt v1777 c0_i32_1297
  let c0_i32_1298 : BitVec 32 := 0#32
  let v1780 : BitVec 1 := Scalar.cmpi .slt v1776 c0_i32_1298
  let v1781 : BitVec 1 := Scalar.xori v1779 v1780
  let c0_i32_1296 : BitVec 32 := 0#32
  let v1778 : BitVec 1 := Scalar.cmpi .ne v1777 c0_i32_1296
  let v1782 : BitVec 1 := Scalar.andi v1781 v1778
  let v1783 : BitVec 32 := Scalar.addi v1777 v1776
  let v1784 : BitVec 32 := Scalar.select v1782 v1783 v1777
  let c1_i32_1299 : BitVec 32 := 1#32
  let v1785 : BitVec 32 := Scalar.muli v1784 c1_i32_1299
  let v1786 : BitVec 32 := Scalar.addi c0_i32_1300 v1785
  v1786.toNat
def k0_dev60 (d0 : Dev nD) : Nat :=
  let c0_i32_1313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1305 : BitVec 32 := 14#32
  let v1793 : BitVec 32 := Scalar.addi v2 c14_i32_1305
  let c16_i32_1306 : BitVec 32 := 16#32
  let c0_i32_1307 : BitVec 32 := 0#32
  let v1794 : BitVec 1 := Scalar.cmpi .eq c16_i32_1306 c0_i32_1307
  let c1_i32_1308 : BitVec 32 := 1#32
  let v1795 : BitVec 32 := Scalar.select v1794 c1_i32_1308 c16_i32_1306
  let v1796 : BitVec 32 := Scalar.remsi v1793 v1795
  let c0_i32_1310 : BitVec 32 := 0#32
  let v1798 : BitVec 1 := Scalar.cmpi .slt v1796 c0_i32_1310
  let c0_i32_1311 : BitVec 32 := 0#32
  let v1799 : BitVec 1 := Scalar.cmpi .slt v1795 c0_i32_1311
  let v1800 : BitVec 1 := Scalar.xori v1798 v1799
  let c0_i32_1309 : BitVec 32 := 0#32
  let v1797 : BitVec 1 := Scalar.cmpi .ne v1796 c0_i32_1309
  let v1801 : BitVec 1 := Scalar.andi v1800 v1797
  let v1802 : BitVec 32 := Scalar.addi v1796 v1795
  let v1803 : BitVec 32 := Scalar.select v1801 v1802 v1796
  let c1_i32_1312 : BitVec 32 := 1#32
  let v1804 : BitVec 32 := Scalar.muli v1803 c1_i32_1312
  let v1805 : BitVec 32 := Scalar.addi c0_i32_1313 v1804
  v1805.toNat
def k0_dev61 (d0 : Dev nD) : Nat :=
  let c0_i32_1326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1318 : BitVec 32 := 15#32
  let v1812 : BitVec 32 := Scalar.addi v2 c15_i32_1318
  let c16_i32_1319 : BitVec 32 := 16#32
  let c0_i32_1320 : BitVec 32 := 0#32
  let v1813 : BitVec 1 := Scalar.cmpi .eq c16_i32_1319 c0_i32_1320
  let c1_i32_1321 : BitVec 32 := 1#32
  let v1814 : BitVec 32 := Scalar.select v1813 c1_i32_1321 c16_i32_1319
  let v1815 : BitVec 32 := Scalar.remsi v1812 v1814
  let c0_i32_1323 : BitVec 32 := 0#32
  let v1817 : BitVec 1 := Scalar.cmpi .slt v1815 c0_i32_1323
  let c0_i32_1324 : BitVec 32 := 0#32
  let v1818 : BitVec 1 := Scalar.cmpi .slt v1814 c0_i32_1324
  let v1819 : BitVec 1 := Scalar.xori v1817 v1818
  let c0_i32_1322 : BitVec 32 := 0#32
  let v1816 : BitVec 1 := Scalar.cmpi .ne v1815 c0_i32_1322
  let v1820 : BitVec 1 := Scalar.andi v1819 v1816
  let v1821 : BitVec 32 := Scalar.addi v1815 v1814
  let v1822 : BitVec 32 := Scalar.select v1820 v1821 v1815
  let c1_i32_1325 : BitVec 32 := 1#32
  let v1823 : BitVec 32 := Scalar.muli v1822 c1_i32_1325
  let v1824 : BitVec 32 := Scalar.addi c0_i32_1326 v1823
  v1824.toNat
def k0_dev62 (d0 : Dev nD) : Nat :=
  let c0_i32_1371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1346 : BitVec 32 := 1#32
  let v1855 : BitVec 32 := Scalar.subi v2 c1_i32_1346
  let c16_i32_1347 : BitVec 32 := 16#32
  let c0_i32_1348 : BitVec 32 := 0#32
  let v1856 : BitVec 1 := Scalar.cmpi .eq c16_i32_1347 c0_i32_1348
  let c1_i32_1349 : BitVec 32 := 1#32
  let v1857 : BitVec 32 := Scalar.select v1856 c1_i32_1349 c16_i32_1347
  let v1858 : BitVec 32 := Scalar.remsi v1855 v1857
  let c0_i32_1351 : BitVec 32 := 0#32
  let v1860 : BitVec 1 := Scalar.cmpi .slt v1858 c0_i32_1351
  let c0_i32_1352 : BitVec 32 := 0#32
  let v1861 : BitVec 1 := Scalar.cmpi .slt v1857 c0_i32_1352
  let v1862 : BitVec 1 := Scalar.xori v1860 v1861
  let c0_i32_1350 : BitVec 32 := 0#32
  let v1859 : BitVec 1 := Scalar.cmpi .ne v1858 c0_i32_1350
  let v1863 : BitVec 1 := Scalar.andi v1862 v1859
  let v1864 : BitVec 32 := Scalar.addi v1858 v1857
  let v1865 : BitVec 32 := Scalar.select v1863 v1864 v1858
  let c1_i32_1370 : BitVec 32 := 1#32
  let v1891 : BitVec 32 := Scalar.muli v1865 c1_i32_1370
  let v1892 : BitVec 32 := Scalar.addi c0_i32_1371 v1891
  v1892.toNat
def k0_dev63 (d0 : Dev nD) : Nat :=
  let c0_i32_1401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1376 : BitVec 32 := 2#32
  let v1897 : BitVec 32 := Scalar.subi v2 c2_i32_1376
  let c16_i32_1377 : BitVec 32 := 16#32
  let c0_i32_1378 : BitVec 32 := 0#32
  let v1898 : BitVec 1 := Scalar.cmpi .eq c16_i32_1377 c0_i32_1378
  let c1_i32_1379 : BitVec 32 := 1#32
  let v1899 : BitVec 32 := Scalar.select v1898 c1_i32_1379 c16_i32_1377
  let v1900 : BitVec 32 := Scalar.remsi v1897 v1899
  let c0_i32_1381 : BitVec 32 := 0#32
  let v1902 : BitVec 1 := Scalar.cmpi .slt v1900 c0_i32_1381
  let c0_i32_1382 : BitVec 32 := 0#32
  let v1903 : BitVec 1 := Scalar.cmpi .slt v1899 c0_i32_1382
  let v1904 : BitVec 1 := Scalar.xori v1902 v1903
  let c0_i32_1380 : BitVec 32 := 0#32
  let v1901 : BitVec 1 := Scalar.cmpi .ne v1900 c0_i32_1380
  let v1905 : BitVec 1 := Scalar.andi v1904 v1901
  let v1906 : BitVec 32 := Scalar.addi v1900 v1899
  let v1907 : BitVec 32 := Scalar.select v1905 v1906 v1900
  let c1_i32_1400 : BitVec 32 := 1#32
  let v1933 : BitVec 32 := Scalar.muli v1907 c1_i32_1400
  let v1934 : BitVec 32 := Scalar.addi c0_i32_1401 v1933
  v1934.toNat
def k0_dev64 (d0 : Dev nD) : Nat :=
  let c0_i32_1431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1406 : BitVec 32 := 3#32
  let v1939 : BitVec 32 := Scalar.subi v2 c3_i32_1406
  let c16_i32_1407 : BitVec 32 := 16#32
  let c0_i32_1408 : BitVec 32 := 0#32
  let v1940 : BitVec 1 := Scalar.cmpi .eq c16_i32_1407 c0_i32_1408
  let c1_i32_1409 : BitVec 32 := 1#32
  let v1941 : BitVec 32 := Scalar.select v1940 c1_i32_1409 c16_i32_1407
  let v1942 : BitVec 32 := Scalar.remsi v1939 v1941
  let c0_i32_1411 : BitVec 32 := 0#32
  let v1944 : BitVec 1 := Scalar.cmpi .slt v1942 c0_i32_1411
  let c0_i32_1412 : BitVec 32 := 0#32
  let v1945 : BitVec 1 := Scalar.cmpi .slt v1941 c0_i32_1412
  let v1946 : BitVec 1 := Scalar.xori v1944 v1945
  let c0_i32_1410 : BitVec 32 := 0#32
  let v1943 : BitVec 1 := Scalar.cmpi .ne v1942 c0_i32_1410
  let v1947 : BitVec 1 := Scalar.andi v1946 v1943
  let v1948 : BitVec 32 := Scalar.addi v1942 v1941
  let v1949 : BitVec 32 := Scalar.select v1947 v1948 v1942
  let c1_i32_1430 : BitVec 32 := 1#32
  let v1975 : BitVec 32 := Scalar.muli v1949 c1_i32_1430
  let v1976 : BitVec 32 := Scalar.addi c0_i32_1431 v1975
  v1976.toNat
def k0_dev65 (d0 : Dev nD) : Nat :=
  let c0_i32_1461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1436 : BitVec 32 := 4#32
  let v1981 : BitVec 32 := Scalar.subi v2 c4_i32_1436
  let c16_i32_1437 : BitVec 32 := 16#32
  let c0_i32_1438 : BitVec 32 := 0#32
  let v1982 : BitVec 1 := Scalar.cmpi .eq c16_i32_1437 c0_i32_1438
  let c1_i32_1439 : BitVec 32 := 1#32
  let v1983 : BitVec 32 := Scalar.select v1982 c1_i32_1439 c16_i32_1437
  let v1984 : BitVec 32 := Scalar.remsi v1981 v1983
  let c0_i32_1441 : BitVec 32 := 0#32
  let v1986 : BitVec 1 := Scalar.cmpi .slt v1984 c0_i32_1441
  let c0_i32_1442 : BitVec 32 := 0#32
  let v1987 : BitVec 1 := Scalar.cmpi .slt v1983 c0_i32_1442
  let v1988 : BitVec 1 := Scalar.xori v1986 v1987
  let c0_i32_1440 : BitVec 32 := 0#32
  let v1985 : BitVec 1 := Scalar.cmpi .ne v1984 c0_i32_1440
  let v1989 : BitVec 1 := Scalar.andi v1988 v1985
  let v1990 : BitVec 32 := Scalar.addi v1984 v1983
  let v1991 : BitVec 32 := Scalar.select v1989 v1990 v1984
  let c1_i32_1460 : BitVec 32 := 1#32
  let v2017 : BitVec 32 := Scalar.muli v1991 c1_i32_1460
  let v2018 : BitVec 32 := Scalar.addi c0_i32_1461 v2017
  v2018.toNat
def k0_dev66 (d0 : Dev nD) : Nat :=
  let c0_i32_1491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1466 : BitVec 32 := 5#32
  let v2023 : BitVec 32 := Scalar.subi v2 c5_i32_1466
  let c16_i32_1467 : BitVec 32 := 16#32
  let c0_i32_1468 : BitVec 32 := 0#32
  let v2024 : BitVec 1 := Scalar.cmpi .eq c16_i32_1467 c0_i32_1468
  let c1_i32_1469 : BitVec 32 := 1#32
  let v2025 : BitVec 32 := Scalar.select v2024 c1_i32_1469 c16_i32_1467
  let v2026 : BitVec 32 := Scalar.remsi v2023 v2025
  let c0_i32_1471 : BitVec 32 := 0#32
  let v2028 : BitVec 1 := Scalar.cmpi .slt v2026 c0_i32_1471
  let c0_i32_1472 : BitVec 32 := 0#32
  let v2029 : BitVec 1 := Scalar.cmpi .slt v2025 c0_i32_1472
  let v2030 : BitVec 1 := Scalar.xori v2028 v2029
  let c0_i32_1470 : BitVec 32 := 0#32
  let v2027 : BitVec 1 := Scalar.cmpi .ne v2026 c0_i32_1470
  let v2031 : BitVec 1 := Scalar.andi v2030 v2027
  let v2032 : BitVec 32 := Scalar.addi v2026 v2025
  let v2033 : BitVec 32 := Scalar.select v2031 v2032 v2026
  let c1_i32_1490 : BitVec 32 := 1#32
  let v2059 : BitVec 32 := Scalar.muli v2033 c1_i32_1490
  let v2060 : BitVec 32 := Scalar.addi c0_i32_1491 v2059
  v2060.toNat
def k0_dev67 (d0 : Dev nD) : Nat :=
  let c0_i32_1521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1496 : BitVec 32 := 6#32
  let v2065 : BitVec 32 := Scalar.subi v2 c6_i32_1496
  let c16_i32_1497 : BitVec 32 := 16#32
  let c0_i32_1498 : BitVec 32 := 0#32
  let v2066 : BitVec 1 := Scalar.cmpi .eq c16_i32_1497 c0_i32_1498
  let c1_i32_1499 : BitVec 32 := 1#32
  let v2067 : BitVec 32 := Scalar.select v2066 c1_i32_1499 c16_i32_1497
  let v2068 : BitVec 32 := Scalar.remsi v2065 v2067
  let c0_i32_1501 : BitVec 32 := 0#32
  let v2070 : BitVec 1 := Scalar.cmpi .slt v2068 c0_i32_1501
  let c0_i32_1502 : BitVec 32 := 0#32
  let v2071 : BitVec 1 := Scalar.cmpi .slt v2067 c0_i32_1502
  let v2072 : BitVec 1 := Scalar.xori v2070 v2071
  let c0_i32_1500 : BitVec 32 := 0#32
  let v2069 : BitVec 1 := Scalar.cmpi .ne v2068 c0_i32_1500
  let v2073 : BitVec 1 := Scalar.andi v2072 v2069
  let v2074 : BitVec 32 := Scalar.addi v2068 v2067
  let v2075 : BitVec 32 := Scalar.select v2073 v2074 v2068
  let c1_i32_1520 : BitVec 32 := 1#32
  let v2101 : BitVec 32 := Scalar.muli v2075 c1_i32_1520
  let v2102 : BitVec 32 := Scalar.addi c0_i32_1521 v2101
  v2102.toNat
def k0_dev68 (d0 : Dev nD) : Nat :=
  let c0_i32_1551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1526 : BitVec 32 := 7#32
  let v2107 : BitVec 32 := Scalar.subi v2 c7_i32_1526
  let c16_i32_1527 : BitVec 32 := 16#32
  let c0_i32_1528 : BitVec 32 := 0#32
  let v2108 : BitVec 1 := Scalar.cmpi .eq c16_i32_1527 c0_i32_1528
  let c1_i32_1529 : BitVec 32 := 1#32
  let v2109 : BitVec 32 := Scalar.select v2108 c1_i32_1529 c16_i32_1527
  let v2110 : BitVec 32 := Scalar.remsi v2107 v2109
  let c0_i32_1531 : BitVec 32 := 0#32
  let v2112 : BitVec 1 := Scalar.cmpi .slt v2110 c0_i32_1531
  let c0_i32_1532 : BitVec 32 := 0#32
  let v2113 : BitVec 1 := Scalar.cmpi .slt v2109 c0_i32_1532
  let v2114 : BitVec 1 := Scalar.xori v2112 v2113
  let c0_i32_1530 : BitVec 32 := 0#32
  let v2111 : BitVec 1 := Scalar.cmpi .ne v2110 c0_i32_1530
  let v2115 : BitVec 1 := Scalar.andi v2114 v2111
  let v2116 : BitVec 32 := Scalar.addi v2110 v2109
  let v2117 : BitVec 32 := Scalar.select v2115 v2116 v2110
  let c1_i32_1550 : BitVec 32 := 1#32
  let v2143 : BitVec 32 := Scalar.muli v2117 c1_i32_1550
  let v2144 : BitVec 32 := Scalar.addi c0_i32_1551 v2143
  v2144.toNat
def k0_dev69 (d0 : Dev nD) : Nat :=
  let c0_i32_1581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1556 : BitVec 32 := 8#32
  let v2149 : BitVec 32 := Scalar.subi v2 c8_i32_1556
  let c16_i32_1557 : BitVec 32 := 16#32
  let c0_i32_1558 : BitVec 32 := 0#32
  let v2150 : BitVec 1 := Scalar.cmpi .eq c16_i32_1557 c0_i32_1558
  let c1_i32_1559 : BitVec 32 := 1#32
  let v2151 : BitVec 32 := Scalar.select v2150 c1_i32_1559 c16_i32_1557
  let v2152 : BitVec 32 := Scalar.remsi v2149 v2151
  let c0_i32_1561 : BitVec 32 := 0#32
  let v2154 : BitVec 1 := Scalar.cmpi .slt v2152 c0_i32_1561
  let c0_i32_1562 : BitVec 32 := 0#32
  let v2155 : BitVec 1 := Scalar.cmpi .slt v2151 c0_i32_1562
  let v2156 : BitVec 1 := Scalar.xori v2154 v2155
  let c0_i32_1560 : BitVec 32 := 0#32
  let v2153 : BitVec 1 := Scalar.cmpi .ne v2152 c0_i32_1560
  let v2157 : BitVec 1 := Scalar.andi v2156 v2153
  let v2158 : BitVec 32 := Scalar.addi v2152 v2151
  let v2159 : BitVec 32 := Scalar.select v2157 v2158 v2152
  let c1_i32_1580 : BitVec 32 := 1#32
  let v2185 : BitVec 32 := Scalar.muli v2159 c1_i32_1580
  let v2186 : BitVec 32 := Scalar.addi c0_i32_1581 v2185
  v2186.toNat
def k0_dev70 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1586 : BitVec 32 := 9#32
  let v2191 : BitVec 32 := Scalar.subi v2 c9_i32_1586
  let c16_i32_1587 : BitVec 32 := 16#32
  let c0_i32_1588 : BitVec 32 := 0#32
  let v2192 : BitVec 1 := Scalar.cmpi .eq c16_i32_1587 c0_i32_1588
  let c1_i32_1589 : BitVec 32 := 1#32
  let v2193 : BitVec 32 := Scalar.select v2192 c1_i32_1589 c16_i32_1587
  let v2194 : BitVec 32 := Scalar.remsi v2191 v2193
  let c0_i32_1591 : BitVec 32 := 0#32
  let v2196 : BitVec 1 := Scalar.cmpi .slt v2194 c0_i32_1591
  let c0_i32_1592 : BitVec 32 := 0#32
  let v2197 : BitVec 1 := Scalar.cmpi .slt v2193 c0_i32_1592
  let v2198 : BitVec 1 := Scalar.xori v2196 v2197
  let c0_i32_1590 : BitVec 32 := 0#32
  let v2195 : BitVec 1 := Scalar.cmpi .ne v2194 c0_i32_1590
  let v2199 : BitVec 1 := Scalar.andi v2198 v2195
  let v2200 : BitVec 32 := Scalar.addi v2194 v2193
  let v2201 : BitVec 32 := Scalar.select v2199 v2200 v2194
  let c1_i32_1610 : BitVec 32 := 1#32
  let v2227 : BitVec 32 := Scalar.muli v2201 c1_i32_1610
  let v2228 : BitVec 32 := Scalar.addi c0_i32_1611 v2227
  v2228.toNat
def k0_dev71 (d0 : Dev nD) : Nat :=
  let c0_i32_1641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1616 : BitVec 32 := 10#32
  let v2233 : BitVec 32 := Scalar.subi v2 c10_i32_1616
  let c16_i32_1617 : BitVec 32 := 16#32
  let c0_i32_1618 : BitVec 32 := 0#32
  let v2234 : BitVec 1 := Scalar.cmpi .eq c16_i32_1617 c0_i32_1618
  let c1_i32_1619 : BitVec 32 := 1#32
  let v2235 : BitVec 32 := Scalar.select v2234 c1_i32_1619 c16_i32_1617
  let v2236 : BitVec 32 := Scalar.remsi v2233 v2235
  let c0_i32_1621 : BitVec 32 := 0#32
  let v2238 : BitVec 1 := Scalar.cmpi .slt v2236 c0_i32_1621
  let c0_i32_1622 : BitVec 32 := 0#32
  let v2239 : BitVec 1 := Scalar.cmpi .slt v2235 c0_i32_1622
  let v2240 : BitVec 1 := Scalar.xori v2238 v2239
  let c0_i32_1620 : BitVec 32 := 0#32
  let v2237 : BitVec 1 := Scalar.cmpi .ne v2236 c0_i32_1620
  let v2241 : BitVec 1 := Scalar.andi v2240 v2237
  let v2242 : BitVec 32 := Scalar.addi v2236 v2235
  let v2243 : BitVec 32 := Scalar.select v2241 v2242 v2236
  let c1_i32_1640 : BitVec 32 := 1#32
  let v2269 : BitVec 32 := Scalar.muli v2243 c1_i32_1640
  let v2270 : BitVec 32 := Scalar.addi c0_i32_1641 v2269
  v2270.toNat
def k0_dev72 (d0 : Dev nD) : Nat :=
  let c0_i32_1671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1646 : BitVec 32 := 11#32
  let v2275 : BitVec 32 := Scalar.subi v2 c11_i32_1646
  let c16_i32_1647 : BitVec 32 := 16#32
  let c0_i32_1648 : BitVec 32 := 0#32
  let v2276 : BitVec 1 := Scalar.cmpi .eq c16_i32_1647 c0_i32_1648
  let c1_i32_1649 : BitVec 32 := 1#32
  let v2277 : BitVec 32 := Scalar.select v2276 c1_i32_1649 c16_i32_1647
  let v2278 : BitVec 32 := Scalar.remsi v2275 v2277
  let c0_i32_1651 : BitVec 32 := 0#32
  let v2280 : BitVec 1 := Scalar.cmpi .slt v2278 c0_i32_1651
  let c0_i32_1652 : BitVec 32 := 0#32
  let v2281 : BitVec 1 := Scalar.cmpi .slt v2277 c0_i32_1652
  let v2282 : BitVec 1 := Scalar.xori v2280 v2281
  let c0_i32_1650 : BitVec 32 := 0#32
  let v2279 : BitVec 1 := Scalar.cmpi .ne v2278 c0_i32_1650
  let v2283 : BitVec 1 := Scalar.andi v2282 v2279
  let v2284 : BitVec 32 := Scalar.addi v2278 v2277
  let v2285 : BitVec 32 := Scalar.select v2283 v2284 v2278
  let c1_i32_1670 : BitVec 32 := 1#32
  let v2311 : BitVec 32 := Scalar.muli v2285 c1_i32_1670
  let v2312 : BitVec 32 := Scalar.addi c0_i32_1671 v2311
  v2312.toNat
def k0_dev73 (d0 : Dev nD) : Nat :=
  let c0_i32_1701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1676 : BitVec 32 := 12#32
  let v2317 : BitVec 32 := Scalar.subi v2 c12_i32_1676
  let c16_i32_1677 : BitVec 32 := 16#32
  let c0_i32_1678 : BitVec 32 := 0#32
  let v2318 : BitVec 1 := Scalar.cmpi .eq c16_i32_1677 c0_i32_1678
  let c1_i32_1679 : BitVec 32 := 1#32
  let v2319 : BitVec 32 := Scalar.select v2318 c1_i32_1679 c16_i32_1677
  let v2320 : BitVec 32 := Scalar.remsi v2317 v2319
  let c0_i32_1681 : BitVec 32 := 0#32
  let v2322 : BitVec 1 := Scalar.cmpi .slt v2320 c0_i32_1681
  let c0_i32_1682 : BitVec 32 := 0#32
  let v2323 : BitVec 1 := Scalar.cmpi .slt v2319 c0_i32_1682
  let v2324 : BitVec 1 := Scalar.xori v2322 v2323
  let c0_i32_1680 : BitVec 32 := 0#32
  let v2321 : BitVec 1 := Scalar.cmpi .ne v2320 c0_i32_1680
  let v2325 : BitVec 1 := Scalar.andi v2324 v2321
  let v2326 : BitVec 32 := Scalar.addi v2320 v2319
  let v2327 : BitVec 32 := Scalar.select v2325 v2326 v2320
  let c1_i32_1700 : BitVec 32 := 1#32
  let v2353 : BitVec 32 := Scalar.muli v2327 c1_i32_1700
  let v2354 : BitVec 32 := Scalar.addi c0_i32_1701 v2353
  v2354.toNat
def k0_dev74 (d0 : Dev nD) : Nat :=
  let c0_i32_1731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1706 : BitVec 32 := 13#32
  let v2359 : BitVec 32 := Scalar.subi v2 c13_i32_1706
  let c16_i32_1707 : BitVec 32 := 16#32
  let c0_i32_1708 : BitVec 32 := 0#32
  let v2360 : BitVec 1 := Scalar.cmpi .eq c16_i32_1707 c0_i32_1708
  let c1_i32_1709 : BitVec 32 := 1#32
  let v2361 : BitVec 32 := Scalar.select v2360 c1_i32_1709 c16_i32_1707
  let v2362 : BitVec 32 := Scalar.remsi v2359 v2361
  let c0_i32_1711 : BitVec 32 := 0#32
  let v2364 : BitVec 1 := Scalar.cmpi .slt v2362 c0_i32_1711
  let c0_i32_1712 : BitVec 32 := 0#32
  let v2365 : BitVec 1 := Scalar.cmpi .slt v2361 c0_i32_1712
  let v2366 : BitVec 1 := Scalar.xori v2364 v2365
  let c0_i32_1710 : BitVec 32 := 0#32
  let v2363 : BitVec 1 := Scalar.cmpi .ne v2362 c0_i32_1710
  let v2367 : BitVec 1 := Scalar.andi v2366 v2363
  let v2368 : BitVec 32 := Scalar.addi v2362 v2361
  let v2369 : BitVec 32 := Scalar.select v2367 v2368 v2362
  let c1_i32_1730 : BitVec 32 := 1#32
  let v2395 : BitVec 32 := Scalar.muli v2369 c1_i32_1730
  let v2396 : BitVec 32 := Scalar.addi c0_i32_1731 v2395
  v2396.toNat
def k0_dev75 (d0 : Dev nD) : Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1736 : BitVec 32 := 14#32
  let v2401 : BitVec 32 := Scalar.subi v2 c14_i32_1736
  let c16_i32_1737 : BitVec 32 := 16#32
  let c0_i32_1738 : BitVec 32 := 0#32
  let v2402 : BitVec 1 := Scalar.cmpi .eq c16_i32_1737 c0_i32_1738
  let c1_i32_1739 : BitVec 32 := 1#32
  let v2403 : BitVec 32 := Scalar.select v2402 c1_i32_1739 c16_i32_1737
  let v2404 : BitVec 32 := Scalar.remsi v2401 v2403
  let c0_i32_1741 : BitVec 32 := 0#32
  let v2406 : BitVec 1 := Scalar.cmpi .slt v2404 c0_i32_1741
  let c0_i32_1742 : BitVec 32 := 0#32
  let v2407 : BitVec 1 := Scalar.cmpi .slt v2403 c0_i32_1742
  let v2408 : BitVec 1 := Scalar.xori v2406 v2407
  let c0_i32_1740 : BitVec 32 := 0#32
  let v2405 : BitVec 1 := Scalar.cmpi .ne v2404 c0_i32_1740
  let v2409 : BitVec 1 := Scalar.andi v2408 v2405
  let v2410 : BitVec 32 := Scalar.addi v2404 v2403
  let v2411 : BitVec 32 := Scalar.select v2409 v2410 v2404
  let c1_i32_1760 : BitVec 32 := 1#32
  let v2437 : BitVec 32 := Scalar.muli v2411 c1_i32_1760
  let v2438 : BitVec 32 := Scalar.addi c0_i32_1761 v2437
  v2438.toNat
def k0_dev76 (d0 : Dev nD) : Nat :=
  let c0_i32_1791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1766 : BitVec 32 := 15#32
  let v2443 : BitVec 32 := Scalar.subi v2 c15_i32_1766
  let c16_i32_1767 : BitVec 32 := 16#32
  let c0_i32_1768 : BitVec 32 := 0#32
  let v2444 : BitVec 1 := Scalar.cmpi .eq c16_i32_1767 c0_i32_1768
  let c1_i32_1769 : BitVec 32 := 1#32
  let v2445 : BitVec 32 := Scalar.select v2444 c1_i32_1769 c16_i32_1767
  let v2446 : BitVec 32 := Scalar.remsi v2443 v2445
  let c0_i32_1771 : BitVec 32 := 0#32
  let v2448 : BitVec 1 := Scalar.cmpi .slt v2446 c0_i32_1771
  let c0_i32_1772 : BitVec 32 := 0#32
  let v2449 : BitVec 1 := Scalar.cmpi .slt v2445 c0_i32_1772
  let v2450 : BitVec 1 := Scalar.xori v2448 v2449
  let c0_i32_1770 : BitVec 32 := 0#32
  let v2447 : BitVec 1 := Scalar.cmpi .ne v2446 c0_i32_1770
  let v2451 : BitVec 1 := Scalar.andi v2450 v2447
  let v2452 : BitVec 32 := Scalar.addi v2446 v2445
  let v2453 : BitVec 32 := Scalar.select v2451 v2452 v2446
  let c1_i32_1790 : BitVec 32 := 1#32
  let v2479 : BitVec 32 := Scalar.muli v2453 c1_i32_1790
  let v2480 : BitVec 32 := Scalar.addi c0_i32_1791 v2479
  v2480.toNat
def k0_dev77 (d0 : Dev nD) : Nat :=
  let c0_i32_2260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2252 : BitVec 32 := 1#32
  let v3033 : BitVec 32 := Scalar.addi v2 c1_i32_2252
  let c16_i32_2253 : BitVec 32 := 16#32
  let c0_i32_2254 : BitVec 32 := 0#32
  let v3034 : BitVec 1 := Scalar.cmpi .eq c16_i32_2253 c0_i32_2254
  let c1_i32_2255 : BitVec 32 := 1#32
  let v3035 : BitVec 32 := Scalar.select v3034 c1_i32_2255 c16_i32_2253
  let v3036 : BitVec 32 := Scalar.remsi v3033 v3035
  let c0_i32_2257 : BitVec 32 := 0#32
  let v3038 : BitVec 1 := Scalar.cmpi .slt v3036 c0_i32_2257
  let c0_i32_2258 : BitVec 32 := 0#32
  let v3039 : BitVec 1 := Scalar.cmpi .slt v3035 c0_i32_2258
  let v3040 : BitVec 1 := Scalar.xori v3038 v3039
  let c0_i32_2256 : BitVec 32 := 0#32
  let v3037 : BitVec 1 := Scalar.cmpi .ne v3036 c0_i32_2256
  let v3041 : BitVec 1 := Scalar.andi v3040 v3037
  let v3042 : BitVec 32 := Scalar.addi v3036 v3035
  let v3043 : BitVec 32 := Scalar.select v3041 v3042 v3036
  let c1_i32_2259 : BitVec 32 := 1#32
  let v3044 : BitVec 32 := Scalar.muli v3043 c1_i32_2259
  let v3045 : BitVec 32 := Scalar.addi c0_i32_2260 v3044
  v3045.toNat
def k0_dev78 (d0 : Dev nD) : Nat :=
  let c0_i32_2273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2265 : BitVec 32 := 2#32
  let v3052 : BitVec 32 := Scalar.addi v2 c2_i32_2265
  let c16_i32_2266 : BitVec 32 := 16#32
  let c0_i32_2267 : BitVec 32 := 0#32
  let v3053 : BitVec 1 := Scalar.cmpi .eq c16_i32_2266 c0_i32_2267
  let c1_i32_2268 : BitVec 32 := 1#32
  let v3054 : BitVec 32 := Scalar.select v3053 c1_i32_2268 c16_i32_2266
  let v3055 : BitVec 32 := Scalar.remsi v3052 v3054
  let c0_i32_2270 : BitVec 32 := 0#32
  let v3057 : BitVec 1 := Scalar.cmpi .slt v3055 c0_i32_2270
  let c0_i32_2271 : BitVec 32 := 0#32
  let v3058 : BitVec 1 := Scalar.cmpi .slt v3054 c0_i32_2271
  let v3059 : BitVec 1 := Scalar.xori v3057 v3058
  let c0_i32_2269 : BitVec 32 := 0#32
  let v3056 : BitVec 1 := Scalar.cmpi .ne v3055 c0_i32_2269
  let v3060 : BitVec 1 := Scalar.andi v3059 v3056
  let v3061 : BitVec 32 := Scalar.addi v3055 v3054
  let v3062 : BitVec 32 := Scalar.select v3060 v3061 v3055
  let c1_i32_2272 : BitVec 32 := 1#32
  let v3063 : BitVec 32 := Scalar.muli v3062 c1_i32_2272
  let v3064 : BitVec 32 := Scalar.addi c0_i32_2273 v3063
  v3064.toNat
def k0_dev79 (d0 : Dev nD) : Nat :=
  let c0_i32_2286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2278 : BitVec 32 := 3#32
  let v3071 : BitVec 32 := Scalar.addi v2 c3_i32_2278
  let c16_i32_2279 : BitVec 32 := 16#32
  let c0_i32_2280 : BitVec 32 := 0#32
  let v3072 : BitVec 1 := Scalar.cmpi .eq c16_i32_2279 c0_i32_2280
  let c1_i32_2281 : BitVec 32 := 1#32
  let v3073 : BitVec 32 := Scalar.select v3072 c1_i32_2281 c16_i32_2279
  let v3074 : BitVec 32 := Scalar.remsi v3071 v3073
  let c0_i32_2283 : BitVec 32 := 0#32
  let v3076 : BitVec 1 := Scalar.cmpi .slt v3074 c0_i32_2283
  let c0_i32_2284 : BitVec 32 := 0#32
  let v3077 : BitVec 1 := Scalar.cmpi .slt v3073 c0_i32_2284
  let v3078 : BitVec 1 := Scalar.xori v3076 v3077
  let c0_i32_2282 : BitVec 32 := 0#32
  let v3075 : BitVec 1 := Scalar.cmpi .ne v3074 c0_i32_2282
  let v3079 : BitVec 1 := Scalar.andi v3078 v3075
  let v3080 : BitVec 32 := Scalar.addi v3074 v3073
  let v3081 : BitVec 32 := Scalar.select v3079 v3080 v3074
  let c1_i32_2285 : BitVec 32 := 1#32
  let v3082 : BitVec 32 := Scalar.muli v3081 c1_i32_2285
  let v3083 : BitVec 32 := Scalar.addi c0_i32_2286 v3082
  v3083.toNat
def k0_dev80 (d0 : Dev nD) : Nat :=
  let c0_i32_2299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2291 : BitVec 32 := 4#32
  let v3090 : BitVec 32 := Scalar.addi v2 c4_i32_2291
  let c16_i32_2292 : BitVec 32 := 16#32
  let c0_i32_2293 : BitVec 32 := 0#32
  let v3091 : BitVec 1 := Scalar.cmpi .eq c16_i32_2292 c0_i32_2293
  let c1_i32_2294 : BitVec 32 := 1#32
  let v3092 : BitVec 32 := Scalar.select v3091 c1_i32_2294 c16_i32_2292
  let v3093 : BitVec 32 := Scalar.remsi v3090 v3092
  let c0_i32_2296 : BitVec 32 := 0#32
  let v3095 : BitVec 1 := Scalar.cmpi .slt v3093 c0_i32_2296
  let c0_i32_2297 : BitVec 32 := 0#32
  let v3096 : BitVec 1 := Scalar.cmpi .slt v3092 c0_i32_2297
  let v3097 : BitVec 1 := Scalar.xori v3095 v3096
  let c0_i32_2295 : BitVec 32 := 0#32
  let v3094 : BitVec 1 := Scalar.cmpi .ne v3093 c0_i32_2295
  let v3098 : BitVec 1 := Scalar.andi v3097 v3094
  let v3099 : BitVec 32 := Scalar.addi v3093 v3092
  let v3100 : BitVec 32 := Scalar.select v3098 v3099 v3093
  let c1_i32_2298 : BitVec 32 := 1#32
  let v3101 : BitVec 32 := Scalar.muli v3100 c1_i32_2298
  let v3102 : BitVec 32 := Scalar.addi c0_i32_2299 v3101
  v3102.toNat
def k0_dev81 (d0 : Dev nD) : Nat :=
  let c0_i32_2312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2304 : BitVec 32 := 5#32
  let v3109 : BitVec 32 := Scalar.addi v2 c5_i32_2304
  let c16_i32_2305 : BitVec 32 := 16#32
  let c0_i32_2306 : BitVec 32 := 0#32
  let v3110 : BitVec 1 := Scalar.cmpi .eq c16_i32_2305 c0_i32_2306
  let c1_i32_2307 : BitVec 32 := 1#32
  let v3111 : BitVec 32 := Scalar.select v3110 c1_i32_2307 c16_i32_2305
  let v3112 : BitVec 32 := Scalar.remsi v3109 v3111
  let c0_i32_2309 : BitVec 32 := 0#32
  let v3114 : BitVec 1 := Scalar.cmpi .slt v3112 c0_i32_2309
  let c0_i32_2310 : BitVec 32 := 0#32
  let v3115 : BitVec 1 := Scalar.cmpi .slt v3111 c0_i32_2310
  let v3116 : BitVec 1 := Scalar.xori v3114 v3115
  let c0_i32_2308 : BitVec 32 := 0#32
  let v3113 : BitVec 1 := Scalar.cmpi .ne v3112 c0_i32_2308
  let v3117 : BitVec 1 := Scalar.andi v3116 v3113
  let v3118 : BitVec 32 := Scalar.addi v3112 v3111
  let v3119 : BitVec 32 := Scalar.select v3117 v3118 v3112
  let c1_i32_2311 : BitVec 32 := 1#32
  let v3120 : BitVec 32 := Scalar.muli v3119 c1_i32_2311
  let v3121 : BitVec 32 := Scalar.addi c0_i32_2312 v3120
  v3121.toNat
def k0_dev82 (d0 : Dev nD) : Nat :=
  let c0_i32_2325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2317 : BitVec 32 := 6#32
  let v3128 : BitVec 32 := Scalar.addi v2 c6_i32_2317
  let c16_i32_2318 : BitVec 32 := 16#32
  let c0_i32_2319 : BitVec 32 := 0#32
  let v3129 : BitVec 1 := Scalar.cmpi .eq c16_i32_2318 c0_i32_2319
  let c1_i32_2320 : BitVec 32 := 1#32
  let v3130 : BitVec 32 := Scalar.select v3129 c1_i32_2320 c16_i32_2318
  let v3131 : BitVec 32 := Scalar.remsi v3128 v3130
  let c0_i32_2322 : BitVec 32 := 0#32
  let v3133 : BitVec 1 := Scalar.cmpi .slt v3131 c0_i32_2322
  let c0_i32_2323 : BitVec 32 := 0#32
  let v3134 : BitVec 1 := Scalar.cmpi .slt v3130 c0_i32_2323
  let v3135 : BitVec 1 := Scalar.xori v3133 v3134
  let c0_i32_2321 : BitVec 32 := 0#32
  let v3132 : BitVec 1 := Scalar.cmpi .ne v3131 c0_i32_2321
  let v3136 : BitVec 1 := Scalar.andi v3135 v3132
  let v3137 : BitVec 32 := Scalar.addi v3131 v3130
  let v3138 : BitVec 32 := Scalar.select v3136 v3137 v3131
  let c1_i32_2324 : BitVec 32 := 1#32
  let v3139 : BitVec 32 := Scalar.muli v3138 c1_i32_2324
  let v3140 : BitVec 32 := Scalar.addi c0_i32_2325 v3139
  v3140.toNat
def k0_dev83 (d0 : Dev nD) : Nat :=
  let c0_i32_2338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2330 : BitVec 32 := 7#32
  let v3147 : BitVec 32 := Scalar.addi v2 c7_i32_2330
  let c16_i32_2331 : BitVec 32 := 16#32
  let c0_i32_2332 : BitVec 32 := 0#32
  let v3148 : BitVec 1 := Scalar.cmpi .eq c16_i32_2331 c0_i32_2332
  let c1_i32_2333 : BitVec 32 := 1#32
  let v3149 : BitVec 32 := Scalar.select v3148 c1_i32_2333 c16_i32_2331
  let v3150 : BitVec 32 := Scalar.remsi v3147 v3149
  let c0_i32_2335 : BitVec 32 := 0#32
  let v3152 : BitVec 1 := Scalar.cmpi .slt v3150 c0_i32_2335
  let c0_i32_2336 : BitVec 32 := 0#32
  let v3153 : BitVec 1 := Scalar.cmpi .slt v3149 c0_i32_2336
  let v3154 : BitVec 1 := Scalar.xori v3152 v3153
  let c0_i32_2334 : BitVec 32 := 0#32
  let v3151 : BitVec 1 := Scalar.cmpi .ne v3150 c0_i32_2334
  let v3155 : BitVec 1 := Scalar.andi v3154 v3151
  let v3156 : BitVec 32 := Scalar.addi v3150 v3149
  let v3157 : BitVec 32 := Scalar.select v3155 v3156 v3150
  let c1_i32_2337 : BitVec 32 := 1#32
  let v3158 : BitVec 32 := Scalar.muli v3157 c1_i32_2337
  let v3159 : BitVec 32 := Scalar.addi c0_i32_2338 v3158
  v3159.toNat
def k0_dev84 (d0 : Dev nD) : Nat :=
  let c0_i32_2351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2343 : BitVec 32 := 8#32
  let v3166 : BitVec 32 := Scalar.addi v2 c8_i32_2343
  let c16_i32_2344 : BitVec 32 := 16#32
  let c0_i32_2345 : BitVec 32 := 0#32
  let v3167 : BitVec 1 := Scalar.cmpi .eq c16_i32_2344 c0_i32_2345
  let c1_i32_2346 : BitVec 32 := 1#32
  let v3168 : BitVec 32 := Scalar.select v3167 c1_i32_2346 c16_i32_2344
  let v3169 : BitVec 32 := Scalar.remsi v3166 v3168
  let c0_i32_2348 : BitVec 32 := 0#32
  let v3171 : BitVec 1 := Scalar.cmpi .slt v3169 c0_i32_2348
  let c0_i32_2349 : BitVec 32 := 0#32
  let v3172 : BitVec 1 := Scalar.cmpi .slt v3168 c0_i32_2349
  let v3173 : BitVec 1 := Scalar.xori v3171 v3172
  let c0_i32_2347 : BitVec 32 := 0#32
  let v3170 : BitVec 1 := Scalar.cmpi .ne v3169 c0_i32_2347
  let v3174 : BitVec 1 := Scalar.andi v3173 v3170
  let v3175 : BitVec 32 := Scalar.addi v3169 v3168
  let v3176 : BitVec 32 := Scalar.select v3174 v3175 v3169
  let c1_i32_2350 : BitVec 32 := 1#32
  let v3177 : BitVec 32 := Scalar.muli v3176 c1_i32_2350
  let v3178 : BitVec 32 := Scalar.addi c0_i32_2351 v3177
  v3178.toNat
def k0_dev85 (d0 : Dev nD) : Nat :=
  let c0_i32_2364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2356 : BitVec 32 := 9#32
  let v3185 : BitVec 32 := Scalar.addi v2 c9_i32_2356
  let c16_i32_2357 : BitVec 32 := 16#32
  let c0_i32_2358 : BitVec 32 := 0#32
  let v3186 : BitVec 1 := Scalar.cmpi .eq c16_i32_2357 c0_i32_2358
  let c1_i32_2359 : BitVec 32 := 1#32
  let v3187 : BitVec 32 := Scalar.select v3186 c1_i32_2359 c16_i32_2357
  let v3188 : BitVec 32 := Scalar.remsi v3185 v3187
  let c0_i32_2361 : BitVec 32 := 0#32
  let v3190 : BitVec 1 := Scalar.cmpi .slt v3188 c0_i32_2361
  let c0_i32_2362 : BitVec 32 := 0#32
  let v3191 : BitVec 1 := Scalar.cmpi .slt v3187 c0_i32_2362
  let v3192 : BitVec 1 := Scalar.xori v3190 v3191
  let c0_i32_2360 : BitVec 32 := 0#32
  let v3189 : BitVec 1 := Scalar.cmpi .ne v3188 c0_i32_2360
  let v3193 : BitVec 1 := Scalar.andi v3192 v3189
  let v3194 : BitVec 32 := Scalar.addi v3188 v3187
  let v3195 : BitVec 32 := Scalar.select v3193 v3194 v3188
  let c1_i32_2363 : BitVec 32 := 1#32
  let v3196 : BitVec 32 := Scalar.muli v3195 c1_i32_2363
  let v3197 : BitVec 32 := Scalar.addi c0_i32_2364 v3196
  v3197.toNat
def k0_dev86 (d0 : Dev nD) : Nat :=
  let c0_i32_2377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2369 : BitVec 32 := 10#32
  let v3204 : BitVec 32 := Scalar.addi v2 c10_i32_2369
  let c16_i32_2370 : BitVec 32 := 16#32
  let c0_i32_2371 : BitVec 32 := 0#32
  let v3205 : BitVec 1 := Scalar.cmpi .eq c16_i32_2370 c0_i32_2371
  let c1_i32_2372 : BitVec 32 := 1#32
  let v3206 : BitVec 32 := Scalar.select v3205 c1_i32_2372 c16_i32_2370
  let v3207 : BitVec 32 := Scalar.remsi v3204 v3206
  let c0_i32_2374 : BitVec 32 := 0#32
  let v3209 : BitVec 1 := Scalar.cmpi .slt v3207 c0_i32_2374
  let c0_i32_2375 : BitVec 32 := 0#32
  let v3210 : BitVec 1 := Scalar.cmpi .slt v3206 c0_i32_2375
  let v3211 : BitVec 1 := Scalar.xori v3209 v3210
  let c0_i32_2373 : BitVec 32 := 0#32
  let v3208 : BitVec 1 := Scalar.cmpi .ne v3207 c0_i32_2373
  let v3212 : BitVec 1 := Scalar.andi v3211 v3208
  let v3213 : BitVec 32 := Scalar.addi v3207 v3206
  let v3214 : BitVec 32 := Scalar.select v3212 v3213 v3207
  let c1_i32_2376 : BitVec 32 := 1#32
  let v3215 : BitVec 32 := Scalar.muli v3214 c1_i32_2376
  let v3216 : BitVec 32 := Scalar.addi c0_i32_2377 v3215
  v3216.toNat
def k0_dev87 (d0 : Dev nD) : Nat :=
  let c0_i32_2390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2382 : BitVec 32 := 11#32
  let v3223 : BitVec 32 := Scalar.addi v2 c11_i32_2382
  let c16_i32_2383 : BitVec 32 := 16#32
  let c0_i32_2384 : BitVec 32 := 0#32
  let v3224 : BitVec 1 := Scalar.cmpi .eq c16_i32_2383 c0_i32_2384
  let c1_i32_2385 : BitVec 32 := 1#32
  let v3225 : BitVec 32 := Scalar.select v3224 c1_i32_2385 c16_i32_2383
  let v3226 : BitVec 32 := Scalar.remsi v3223 v3225
  let c0_i32_2387 : BitVec 32 := 0#32
  let v3228 : BitVec 1 := Scalar.cmpi .slt v3226 c0_i32_2387
  let c0_i32_2388 : BitVec 32 := 0#32
  let v3229 : BitVec 1 := Scalar.cmpi .slt v3225 c0_i32_2388
  let v3230 : BitVec 1 := Scalar.xori v3228 v3229
  let c0_i32_2386 : BitVec 32 := 0#32
  let v3227 : BitVec 1 := Scalar.cmpi .ne v3226 c0_i32_2386
  let v3231 : BitVec 1 := Scalar.andi v3230 v3227
  let v3232 : BitVec 32 := Scalar.addi v3226 v3225
  let v3233 : BitVec 32 := Scalar.select v3231 v3232 v3226
  let c1_i32_2389 : BitVec 32 := 1#32
  let v3234 : BitVec 32 := Scalar.muli v3233 c1_i32_2389
  let v3235 : BitVec 32 := Scalar.addi c0_i32_2390 v3234
  v3235.toNat
def k0_dev88 (d0 : Dev nD) : Nat :=
  let c0_i32_2403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2395 : BitVec 32 := 12#32
  let v3242 : BitVec 32 := Scalar.addi v2 c12_i32_2395
  let c16_i32_2396 : BitVec 32 := 16#32
  let c0_i32_2397 : BitVec 32 := 0#32
  let v3243 : BitVec 1 := Scalar.cmpi .eq c16_i32_2396 c0_i32_2397
  let c1_i32_2398 : BitVec 32 := 1#32
  let v3244 : BitVec 32 := Scalar.select v3243 c1_i32_2398 c16_i32_2396
  let v3245 : BitVec 32 := Scalar.remsi v3242 v3244
  let c0_i32_2400 : BitVec 32 := 0#32
  let v3247 : BitVec 1 := Scalar.cmpi .slt v3245 c0_i32_2400
  let c0_i32_2401 : BitVec 32 := 0#32
  let v3248 : BitVec 1 := Scalar.cmpi .slt v3244 c0_i32_2401
  let v3249 : BitVec 1 := Scalar.xori v3247 v3248
  let c0_i32_2399 : BitVec 32 := 0#32
  let v3246 : BitVec 1 := Scalar.cmpi .ne v3245 c0_i32_2399
  let v3250 : BitVec 1 := Scalar.andi v3249 v3246
  let v3251 : BitVec 32 := Scalar.addi v3245 v3244
  let v3252 : BitVec 32 := Scalar.select v3250 v3251 v3245
  let c1_i32_2402 : BitVec 32 := 1#32
  let v3253 : BitVec 32 := Scalar.muli v3252 c1_i32_2402
  let v3254 : BitVec 32 := Scalar.addi c0_i32_2403 v3253
  v3254.toNat
def k0_dev89 (d0 : Dev nD) : Nat :=
  let c0_i32_2416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2408 : BitVec 32 := 13#32
  let v3261 : BitVec 32 := Scalar.addi v2 c13_i32_2408
  let c16_i32_2409 : BitVec 32 := 16#32
  let c0_i32_2410 : BitVec 32 := 0#32
  let v3262 : BitVec 1 := Scalar.cmpi .eq c16_i32_2409 c0_i32_2410
  let c1_i32_2411 : BitVec 32 := 1#32
  let v3263 : BitVec 32 := Scalar.select v3262 c1_i32_2411 c16_i32_2409
  let v3264 : BitVec 32 := Scalar.remsi v3261 v3263
  let c0_i32_2413 : BitVec 32 := 0#32
  let v3266 : BitVec 1 := Scalar.cmpi .slt v3264 c0_i32_2413
  let c0_i32_2414 : BitVec 32 := 0#32
  let v3267 : BitVec 1 := Scalar.cmpi .slt v3263 c0_i32_2414
  let v3268 : BitVec 1 := Scalar.xori v3266 v3267
  let c0_i32_2412 : BitVec 32 := 0#32
  let v3265 : BitVec 1 := Scalar.cmpi .ne v3264 c0_i32_2412
  let v3269 : BitVec 1 := Scalar.andi v3268 v3265
  let v3270 : BitVec 32 := Scalar.addi v3264 v3263
  let v3271 : BitVec 32 := Scalar.select v3269 v3270 v3264
  let c1_i32_2415 : BitVec 32 := 1#32
  let v3272 : BitVec 32 := Scalar.muli v3271 c1_i32_2415
  let v3273 : BitVec 32 := Scalar.addi c0_i32_2416 v3272
  v3273.toNat
def k0_dev90 (d0 : Dev nD) : Nat :=
  let c0_i32_2429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2421 : BitVec 32 := 14#32
  let v3280 : BitVec 32 := Scalar.addi v2 c14_i32_2421
  let c16_i32_2422 : BitVec 32 := 16#32
  let c0_i32_2423 : BitVec 32 := 0#32
  let v3281 : BitVec 1 := Scalar.cmpi .eq c16_i32_2422 c0_i32_2423
  let c1_i32_2424 : BitVec 32 := 1#32
  let v3282 : BitVec 32 := Scalar.select v3281 c1_i32_2424 c16_i32_2422
  let v3283 : BitVec 32 := Scalar.remsi v3280 v3282
  let c0_i32_2426 : BitVec 32 := 0#32
  let v3285 : BitVec 1 := Scalar.cmpi .slt v3283 c0_i32_2426
  let c0_i32_2427 : BitVec 32 := 0#32
  let v3286 : BitVec 1 := Scalar.cmpi .slt v3282 c0_i32_2427
  let v3287 : BitVec 1 := Scalar.xori v3285 v3286
  let c0_i32_2425 : BitVec 32 := 0#32
  let v3284 : BitVec 1 := Scalar.cmpi .ne v3283 c0_i32_2425
  let v3288 : BitVec 1 := Scalar.andi v3287 v3284
  let v3289 : BitVec 32 := Scalar.addi v3283 v3282
  let v3290 : BitVec 32 := Scalar.select v3288 v3289 v3283
  let c1_i32_2428 : BitVec 32 := 1#32
  let v3291 : BitVec 32 := Scalar.muli v3290 c1_i32_2428
  let v3292 : BitVec 32 := Scalar.addi c0_i32_2429 v3291
  v3292.toNat
def k0_dev91 (d0 : Dev nD) : Nat :=
  let c0_i32_2442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2434 : BitVec 32 := 15#32
  let v3299 : BitVec 32 := Scalar.addi v2 c15_i32_2434
  let c16_i32_2435 : BitVec 32 := 16#32
  let c0_i32_2436 : BitVec 32 := 0#32
  let v3300 : BitVec 1 := Scalar.cmpi .eq c16_i32_2435 c0_i32_2436
  let c1_i32_2437 : BitVec 32 := 1#32
  let v3301 : BitVec 32 := Scalar.select v3300 c1_i32_2437 c16_i32_2435
  let v3302 : BitVec 32 := Scalar.remsi v3299 v3301
  let c0_i32_2439 : BitVec 32 := 0#32
  let v3304 : BitVec 1 := Scalar.cmpi .slt v3302 c0_i32_2439
  let c0_i32_2440 : BitVec 32 := 0#32
  let v3305 : BitVec 1 := Scalar.cmpi .slt v3301 c0_i32_2440
  let v3306 : BitVec 1 := Scalar.xori v3304 v3305
  let c0_i32_2438 : BitVec 32 := 0#32
  let v3303 : BitVec 1 := Scalar.cmpi .ne v3302 c0_i32_2438
  let v3307 : BitVec 1 := Scalar.andi v3306 v3303
  let v3308 : BitVec 32 := Scalar.addi v3302 v3301
  let v3309 : BitVec 32 := Scalar.select v3307 v3308 v3302
  let c1_i32_2441 : BitVec 32 := 1#32
  let v3310 : BitVec 32 := Scalar.muli v3309 c1_i32_2441
  let v3311 : BitVec 32 := Scalar.addi c0_i32_2442 v3310
  v3311.toNat
def k0_dev92 (d0 : Dev nD) : Nat :=
  let c0_i32_2487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2462 : BitVec 32 := 1#32
  let v3342 : BitVec 32 := Scalar.subi v2 c1_i32_2462
  let c16_i32_2463 : BitVec 32 := 16#32
  let c0_i32_2464 : BitVec 32 := 0#32
  let v3343 : BitVec 1 := Scalar.cmpi .eq c16_i32_2463 c0_i32_2464
  let c1_i32_2465 : BitVec 32 := 1#32
  let v3344 : BitVec 32 := Scalar.select v3343 c1_i32_2465 c16_i32_2463
  let v3345 : BitVec 32 := Scalar.remsi v3342 v3344
  let c0_i32_2467 : BitVec 32 := 0#32
  let v3347 : BitVec 1 := Scalar.cmpi .slt v3345 c0_i32_2467
  let c0_i32_2468 : BitVec 32 := 0#32
  let v3348 : BitVec 1 := Scalar.cmpi .slt v3344 c0_i32_2468
  let v3349 : BitVec 1 := Scalar.xori v3347 v3348
  let c0_i32_2466 : BitVec 32 := 0#32
  let v3346 : BitVec 1 := Scalar.cmpi .ne v3345 c0_i32_2466
  let v3350 : BitVec 1 := Scalar.andi v3349 v3346
  let v3351 : BitVec 32 := Scalar.addi v3345 v3344
  let v3352 : BitVec 32 := Scalar.select v3350 v3351 v3345
  let c1_i32_2486 : BitVec 32 := 1#32
  let v3378 : BitVec 32 := Scalar.muli v3352 c1_i32_2486
  let v3379 : BitVec 32 := Scalar.addi c0_i32_2487 v3378
  v3379.toNat
def k0_dev93 (d0 : Dev nD) : Nat :=
  let c0_i32_2517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2492 : BitVec 32 := 2#32
  let v3384 : BitVec 32 := Scalar.subi v2 c2_i32_2492
  let c16_i32_2493 : BitVec 32 := 16#32
  let c0_i32_2494 : BitVec 32 := 0#32
  let v3385 : BitVec 1 := Scalar.cmpi .eq c16_i32_2493 c0_i32_2494
  let c1_i32_2495 : BitVec 32 := 1#32
  let v3386 : BitVec 32 := Scalar.select v3385 c1_i32_2495 c16_i32_2493
  let v3387 : BitVec 32 := Scalar.remsi v3384 v3386
  let c0_i32_2497 : BitVec 32 := 0#32
  let v3389 : BitVec 1 := Scalar.cmpi .slt v3387 c0_i32_2497
  let c0_i32_2498 : BitVec 32 := 0#32
  let v3390 : BitVec 1 := Scalar.cmpi .slt v3386 c0_i32_2498
  let v3391 : BitVec 1 := Scalar.xori v3389 v3390
  let c0_i32_2496 : BitVec 32 := 0#32
  let v3388 : BitVec 1 := Scalar.cmpi .ne v3387 c0_i32_2496
  let v3392 : BitVec 1 := Scalar.andi v3391 v3388
  let v3393 : BitVec 32 := Scalar.addi v3387 v3386
  let v3394 : BitVec 32 := Scalar.select v3392 v3393 v3387
  let c1_i32_2516 : BitVec 32 := 1#32
  let v3420 : BitVec 32 := Scalar.muli v3394 c1_i32_2516
  let v3421 : BitVec 32 := Scalar.addi c0_i32_2517 v3420
  v3421.toNat
def k0_dev94 (d0 : Dev nD) : Nat :=
  let c0_i32_2547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2522 : BitVec 32 := 3#32
  let v3426 : BitVec 32 := Scalar.subi v2 c3_i32_2522
  let c16_i32_2523 : BitVec 32 := 16#32
  let c0_i32_2524 : BitVec 32 := 0#32
  let v3427 : BitVec 1 := Scalar.cmpi .eq c16_i32_2523 c0_i32_2524
  let c1_i32_2525 : BitVec 32 := 1#32
  let v3428 : BitVec 32 := Scalar.select v3427 c1_i32_2525 c16_i32_2523
  let v3429 : BitVec 32 := Scalar.remsi v3426 v3428
  let c0_i32_2527 : BitVec 32 := 0#32
  let v3431 : BitVec 1 := Scalar.cmpi .slt v3429 c0_i32_2527
  let c0_i32_2528 : BitVec 32 := 0#32
  let v3432 : BitVec 1 := Scalar.cmpi .slt v3428 c0_i32_2528
  let v3433 : BitVec 1 := Scalar.xori v3431 v3432
  let c0_i32_2526 : BitVec 32 := 0#32
  let v3430 : BitVec 1 := Scalar.cmpi .ne v3429 c0_i32_2526
  let v3434 : BitVec 1 := Scalar.andi v3433 v3430
  let v3435 : BitVec 32 := Scalar.addi v3429 v3428
  let v3436 : BitVec 32 := Scalar.select v3434 v3435 v3429
  let c1_i32_2546 : BitVec 32 := 1#32
  let v3462 : BitVec 32 := Scalar.muli v3436 c1_i32_2546
  let v3463 : BitVec 32 := Scalar.addi c0_i32_2547 v3462
  v3463.toNat
def k0_dev95 (d0 : Dev nD) : Nat :=
  let c0_i32_2577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2552 : BitVec 32 := 4#32
  let v3468 : BitVec 32 := Scalar.subi v2 c4_i32_2552
  let c16_i32_2553 : BitVec 32 := 16#32
  let c0_i32_2554 : BitVec 32 := 0#32
  let v3469 : BitVec 1 := Scalar.cmpi .eq c16_i32_2553 c0_i32_2554
  let c1_i32_2555 : BitVec 32 := 1#32
  let v3470 : BitVec 32 := Scalar.select v3469 c1_i32_2555 c16_i32_2553
  let v3471 : BitVec 32 := Scalar.remsi v3468 v3470
  let c0_i32_2557 : BitVec 32 := 0#32
  let v3473 : BitVec 1 := Scalar.cmpi .slt v3471 c0_i32_2557
  let c0_i32_2558 : BitVec 32 := 0#32
  let v3474 : BitVec 1 := Scalar.cmpi .slt v3470 c0_i32_2558
  let v3475 : BitVec 1 := Scalar.xori v3473 v3474
  let c0_i32_2556 : BitVec 32 := 0#32
  let v3472 : BitVec 1 := Scalar.cmpi .ne v3471 c0_i32_2556
  let v3476 : BitVec 1 := Scalar.andi v3475 v3472
  let v3477 : BitVec 32 := Scalar.addi v3471 v3470
  let v3478 : BitVec 32 := Scalar.select v3476 v3477 v3471
  let c1_i32_2576 : BitVec 32 := 1#32
  let v3504 : BitVec 32 := Scalar.muli v3478 c1_i32_2576
  let v3505 : BitVec 32 := Scalar.addi c0_i32_2577 v3504
  v3505.toNat
def k0_dev96 (d0 : Dev nD) : Nat :=
  let c0_i32_2607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2582 : BitVec 32 := 5#32
  let v3510 : BitVec 32 := Scalar.subi v2 c5_i32_2582
  let c16_i32_2583 : BitVec 32 := 16#32
  let c0_i32_2584 : BitVec 32 := 0#32
  let v3511 : BitVec 1 := Scalar.cmpi .eq c16_i32_2583 c0_i32_2584
  let c1_i32_2585 : BitVec 32 := 1#32
  let v3512 : BitVec 32 := Scalar.select v3511 c1_i32_2585 c16_i32_2583
  let v3513 : BitVec 32 := Scalar.remsi v3510 v3512
  let c0_i32_2587 : BitVec 32 := 0#32
  let v3515 : BitVec 1 := Scalar.cmpi .slt v3513 c0_i32_2587
  let c0_i32_2588 : BitVec 32 := 0#32
  let v3516 : BitVec 1 := Scalar.cmpi .slt v3512 c0_i32_2588
  let v3517 : BitVec 1 := Scalar.xori v3515 v3516
  let c0_i32_2586 : BitVec 32 := 0#32
  let v3514 : BitVec 1 := Scalar.cmpi .ne v3513 c0_i32_2586
  let v3518 : BitVec 1 := Scalar.andi v3517 v3514
  let v3519 : BitVec 32 := Scalar.addi v3513 v3512
  let v3520 : BitVec 32 := Scalar.select v3518 v3519 v3513
  let c1_i32_2606 : BitVec 32 := 1#32
  let v3546 : BitVec 32 := Scalar.muli v3520 c1_i32_2606
  let v3547 : BitVec 32 := Scalar.addi c0_i32_2607 v3546
  v3547.toNat
def k0_dev97 (d0 : Dev nD) : Nat :=
  let c0_i32_2637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2612 : BitVec 32 := 6#32
  let v3552 : BitVec 32 := Scalar.subi v2 c6_i32_2612
  let c16_i32_2613 : BitVec 32 := 16#32
  let c0_i32_2614 : BitVec 32 := 0#32
  let v3553 : BitVec 1 := Scalar.cmpi .eq c16_i32_2613 c0_i32_2614
  let c1_i32_2615 : BitVec 32 := 1#32
  let v3554 : BitVec 32 := Scalar.select v3553 c1_i32_2615 c16_i32_2613
  let v3555 : BitVec 32 := Scalar.remsi v3552 v3554
  let c0_i32_2617 : BitVec 32 := 0#32
  let v3557 : BitVec 1 := Scalar.cmpi .slt v3555 c0_i32_2617
  let c0_i32_2618 : BitVec 32 := 0#32
  let v3558 : BitVec 1 := Scalar.cmpi .slt v3554 c0_i32_2618
  let v3559 : BitVec 1 := Scalar.xori v3557 v3558
  let c0_i32_2616 : BitVec 32 := 0#32
  let v3556 : BitVec 1 := Scalar.cmpi .ne v3555 c0_i32_2616
  let v3560 : BitVec 1 := Scalar.andi v3559 v3556
  let v3561 : BitVec 32 := Scalar.addi v3555 v3554
  let v3562 : BitVec 32 := Scalar.select v3560 v3561 v3555
  let c1_i32_2636 : BitVec 32 := 1#32
  let v3588 : BitVec 32 := Scalar.muli v3562 c1_i32_2636
  let v3589 : BitVec 32 := Scalar.addi c0_i32_2637 v3588
  v3589.toNat
def k0_dev98 (d0 : Dev nD) : Nat :=
  let c0_i32_2667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2642 : BitVec 32 := 7#32
  let v3594 : BitVec 32 := Scalar.subi v2 c7_i32_2642
  let c16_i32_2643 : BitVec 32 := 16#32
  let c0_i32_2644 : BitVec 32 := 0#32
  let v3595 : BitVec 1 := Scalar.cmpi .eq c16_i32_2643 c0_i32_2644
  let c1_i32_2645 : BitVec 32 := 1#32
  let v3596 : BitVec 32 := Scalar.select v3595 c1_i32_2645 c16_i32_2643
  let v3597 : BitVec 32 := Scalar.remsi v3594 v3596
  let c0_i32_2647 : BitVec 32 := 0#32
  let v3599 : BitVec 1 := Scalar.cmpi .slt v3597 c0_i32_2647
  let c0_i32_2648 : BitVec 32 := 0#32
  let v3600 : BitVec 1 := Scalar.cmpi .slt v3596 c0_i32_2648
  let v3601 : BitVec 1 := Scalar.xori v3599 v3600
  let c0_i32_2646 : BitVec 32 := 0#32
  let v3598 : BitVec 1 := Scalar.cmpi .ne v3597 c0_i32_2646
  let v3602 : BitVec 1 := Scalar.andi v3601 v3598
  let v3603 : BitVec 32 := Scalar.addi v3597 v3596
  let v3604 : BitVec 32 := Scalar.select v3602 v3603 v3597
  let c1_i32_2666 : BitVec 32 := 1#32
  let v3630 : BitVec 32 := Scalar.muli v3604 c1_i32_2666
  let v3631 : BitVec 32 := Scalar.addi c0_i32_2667 v3630
  v3631.toNat
def k0_dev99 (d0 : Dev nD) : Nat :=
  let c0_i32_2697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2672 : BitVec 32 := 8#32
  let v3636 : BitVec 32 := Scalar.subi v2 c8_i32_2672
  let c16_i32_2673 : BitVec 32 := 16#32
  let c0_i32_2674 : BitVec 32 := 0#32
  let v3637 : BitVec 1 := Scalar.cmpi .eq c16_i32_2673 c0_i32_2674
  let c1_i32_2675 : BitVec 32 := 1#32
  let v3638 : BitVec 32 := Scalar.select v3637 c1_i32_2675 c16_i32_2673
  let v3639 : BitVec 32 := Scalar.remsi v3636 v3638
  let c0_i32_2677 : BitVec 32 := 0#32
  let v3641 : BitVec 1 := Scalar.cmpi .slt v3639 c0_i32_2677
  let c0_i32_2678 : BitVec 32 := 0#32
  let v3642 : BitVec 1 := Scalar.cmpi .slt v3638 c0_i32_2678
  let v3643 : BitVec 1 := Scalar.xori v3641 v3642
  let c0_i32_2676 : BitVec 32 := 0#32
  let v3640 : BitVec 1 := Scalar.cmpi .ne v3639 c0_i32_2676
  let v3644 : BitVec 1 := Scalar.andi v3643 v3640
  let v3645 : BitVec 32 := Scalar.addi v3639 v3638
  let v3646 : BitVec 32 := Scalar.select v3644 v3645 v3639
  let c1_i32_2696 : BitVec 32 := 1#32
  let v3672 : BitVec 32 := Scalar.muli v3646 c1_i32_2696
  let v3673 : BitVec 32 := Scalar.addi c0_i32_2697 v3672
  v3673.toNat
def k0_dev100 (d0 : Dev nD) : Nat :=
  let c0_i32_2727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2702 : BitVec 32 := 9#32
  let v3678 : BitVec 32 := Scalar.subi v2 c9_i32_2702
  let c16_i32_2703 : BitVec 32 := 16#32
  let c0_i32_2704 : BitVec 32 := 0#32
  let v3679 : BitVec 1 := Scalar.cmpi .eq c16_i32_2703 c0_i32_2704
  let c1_i32_2705 : BitVec 32 := 1#32
  let v3680 : BitVec 32 := Scalar.select v3679 c1_i32_2705 c16_i32_2703
  let v3681 : BitVec 32 := Scalar.remsi v3678 v3680
  let c0_i32_2707 : BitVec 32 := 0#32
  let v3683 : BitVec 1 := Scalar.cmpi .slt v3681 c0_i32_2707
  let c0_i32_2708 : BitVec 32 := 0#32
  let v3684 : BitVec 1 := Scalar.cmpi .slt v3680 c0_i32_2708
  let v3685 : BitVec 1 := Scalar.xori v3683 v3684
  let c0_i32_2706 : BitVec 32 := 0#32
  let v3682 : BitVec 1 := Scalar.cmpi .ne v3681 c0_i32_2706
  let v3686 : BitVec 1 := Scalar.andi v3685 v3682
  let v3687 : BitVec 32 := Scalar.addi v3681 v3680
  let v3688 : BitVec 32 := Scalar.select v3686 v3687 v3681
  let c1_i32_2726 : BitVec 32 := 1#32
  let v3714 : BitVec 32 := Scalar.muli v3688 c1_i32_2726
  let v3715 : BitVec 32 := Scalar.addi c0_i32_2727 v3714
  v3715.toNat
def k0_dev101 (d0 : Dev nD) : Nat :=
  let c0_i32_2757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2732 : BitVec 32 := 10#32
  let v3720 : BitVec 32 := Scalar.subi v2 c10_i32_2732
  let c16_i32_2733 : BitVec 32 := 16#32
  let c0_i32_2734 : BitVec 32 := 0#32
  let v3721 : BitVec 1 := Scalar.cmpi .eq c16_i32_2733 c0_i32_2734
  let c1_i32_2735 : BitVec 32 := 1#32
  let v3722 : BitVec 32 := Scalar.select v3721 c1_i32_2735 c16_i32_2733
  let v3723 : BitVec 32 := Scalar.remsi v3720 v3722
  let c0_i32_2737 : BitVec 32 := 0#32
  let v3725 : BitVec 1 := Scalar.cmpi .slt v3723 c0_i32_2737
  let c0_i32_2738 : BitVec 32 := 0#32
  let v3726 : BitVec 1 := Scalar.cmpi .slt v3722 c0_i32_2738
  let v3727 : BitVec 1 := Scalar.xori v3725 v3726
  let c0_i32_2736 : BitVec 32 := 0#32
  let v3724 : BitVec 1 := Scalar.cmpi .ne v3723 c0_i32_2736
  let v3728 : BitVec 1 := Scalar.andi v3727 v3724
  let v3729 : BitVec 32 := Scalar.addi v3723 v3722
  let v3730 : BitVec 32 := Scalar.select v3728 v3729 v3723
  let c1_i32_2756 : BitVec 32 := 1#32
  let v3756 : BitVec 32 := Scalar.muli v3730 c1_i32_2756
  let v3757 : BitVec 32 := Scalar.addi c0_i32_2757 v3756
  v3757.toNat
def k0_dev102 (d0 : Dev nD) : Nat :=
  let c0_i32_2787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2762 : BitVec 32 := 11#32
  let v3762 : BitVec 32 := Scalar.subi v2 c11_i32_2762
  let c16_i32_2763 : BitVec 32 := 16#32
  let c0_i32_2764 : BitVec 32 := 0#32
  let v3763 : BitVec 1 := Scalar.cmpi .eq c16_i32_2763 c0_i32_2764
  let c1_i32_2765 : BitVec 32 := 1#32
  let v3764 : BitVec 32 := Scalar.select v3763 c1_i32_2765 c16_i32_2763
  let v3765 : BitVec 32 := Scalar.remsi v3762 v3764
  let c0_i32_2767 : BitVec 32 := 0#32
  let v3767 : BitVec 1 := Scalar.cmpi .slt v3765 c0_i32_2767
  let c0_i32_2768 : BitVec 32 := 0#32
  let v3768 : BitVec 1 := Scalar.cmpi .slt v3764 c0_i32_2768
  let v3769 : BitVec 1 := Scalar.xori v3767 v3768
  let c0_i32_2766 : BitVec 32 := 0#32
  let v3766 : BitVec 1 := Scalar.cmpi .ne v3765 c0_i32_2766
  let v3770 : BitVec 1 := Scalar.andi v3769 v3766
  let v3771 : BitVec 32 := Scalar.addi v3765 v3764
  let v3772 : BitVec 32 := Scalar.select v3770 v3771 v3765
  let c1_i32_2786 : BitVec 32 := 1#32
  let v3798 : BitVec 32 := Scalar.muli v3772 c1_i32_2786
  let v3799 : BitVec 32 := Scalar.addi c0_i32_2787 v3798
  v3799.toNat
def k0_dev103 (d0 : Dev nD) : Nat :=
  let c0_i32_2817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2792 : BitVec 32 := 12#32
  let v3804 : BitVec 32 := Scalar.subi v2 c12_i32_2792
  let c16_i32_2793 : BitVec 32 := 16#32
  let c0_i32_2794 : BitVec 32 := 0#32
  let v3805 : BitVec 1 := Scalar.cmpi .eq c16_i32_2793 c0_i32_2794
  let c1_i32_2795 : BitVec 32 := 1#32
  let v3806 : BitVec 32 := Scalar.select v3805 c1_i32_2795 c16_i32_2793
  let v3807 : BitVec 32 := Scalar.remsi v3804 v3806
  let c0_i32_2797 : BitVec 32 := 0#32
  let v3809 : BitVec 1 := Scalar.cmpi .slt v3807 c0_i32_2797
  let c0_i32_2798 : BitVec 32 := 0#32
  let v3810 : BitVec 1 := Scalar.cmpi .slt v3806 c0_i32_2798
  let v3811 : BitVec 1 := Scalar.xori v3809 v3810
  let c0_i32_2796 : BitVec 32 := 0#32
  let v3808 : BitVec 1 := Scalar.cmpi .ne v3807 c0_i32_2796
  let v3812 : BitVec 1 := Scalar.andi v3811 v3808
  let v3813 : BitVec 32 := Scalar.addi v3807 v3806
  let v3814 : BitVec 32 := Scalar.select v3812 v3813 v3807
  let c1_i32_2816 : BitVec 32 := 1#32
  let v3840 : BitVec 32 := Scalar.muli v3814 c1_i32_2816
  let v3841 : BitVec 32 := Scalar.addi c0_i32_2817 v3840
  v3841.toNat
def k0_dev104 (d0 : Dev nD) : Nat :=
  let c0_i32_2847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2822 : BitVec 32 := 13#32
  let v3846 : BitVec 32 := Scalar.subi v2 c13_i32_2822
  let c16_i32_2823 : BitVec 32 := 16#32
  let c0_i32_2824 : BitVec 32 := 0#32
  let v3847 : BitVec 1 := Scalar.cmpi .eq c16_i32_2823 c0_i32_2824
  let c1_i32_2825 : BitVec 32 := 1#32
  let v3848 : BitVec 32 := Scalar.select v3847 c1_i32_2825 c16_i32_2823
  let v3849 : BitVec 32 := Scalar.remsi v3846 v3848
  let c0_i32_2827 : BitVec 32 := 0#32
  let v3851 : BitVec 1 := Scalar.cmpi .slt v3849 c0_i32_2827
  let c0_i32_2828 : BitVec 32 := 0#32
  let v3852 : BitVec 1 := Scalar.cmpi .slt v3848 c0_i32_2828
  let v3853 : BitVec 1 := Scalar.xori v3851 v3852
  let c0_i32_2826 : BitVec 32 := 0#32
  let v3850 : BitVec 1 := Scalar.cmpi .ne v3849 c0_i32_2826
  let v3854 : BitVec 1 := Scalar.andi v3853 v3850
  let v3855 : BitVec 32 := Scalar.addi v3849 v3848
  let v3856 : BitVec 32 := Scalar.select v3854 v3855 v3849
  let c1_i32_2846 : BitVec 32 := 1#32
  let v3882 : BitVec 32 := Scalar.muli v3856 c1_i32_2846
  let v3883 : BitVec 32 := Scalar.addi c0_i32_2847 v3882
  v3883.toNat
def k0_dev105 (d0 : Dev nD) : Nat :=
  let c0_i32_2877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2852 : BitVec 32 := 14#32
  let v3888 : BitVec 32 := Scalar.subi v2 c14_i32_2852
  let c16_i32_2853 : BitVec 32 := 16#32
  let c0_i32_2854 : BitVec 32 := 0#32
  let v3889 : BitVec 1 := Scalar.cmpi .eq c16_i32_2853 c0_i32_2854
  let c1_i32_2855 : BitVec 32 := 1#32
  let v3890 : BitVec 32 := Scalar.select v3889 c1_i32_2855 c16_i32_2853
  let v3891 : BitVec 32 := Scalar.remsi v3888 v3890
  let c0_i32_2857 : BitVec 32 := 0#32
  let v3893 : BitVec 1 := Scalar.cmpi .slt v3891 c0_i32_2857
  let c0_i32_2858 : BitVec 32 := 0#32
  let v3894 : BitVec 1 := Scalar.cmpi .slt v3890 c0_i32_2858
  let v3895 : BitVec 1 := Scalar.xori v3893 v3894
  let c0_i32_2856 : BitVec 32 := 0#32
  let v3892 : BitVec 1 := Scalar.cmpi .ne v3891 c0_i32_2856
  let v3896 : BitVec 1 := Scalar.andi v3895 v3892
  let v3897 : BitVec 32 := Scalar.addi v3891 v3890
  let v3898 : BitVec 32 := Scalar.select v3896 v3897 v3891
  let c1_i32_2876 : BitVec 32 := 1#32
  let v3924 : BitVec 32 := Scalar.muli v3898 c1_i32_2876
  let v3925 : BitVec 32 := Scalar.addi c0_i32_2877 v3924
  v3925.toNat
def k0_dev106 (d0 : Dev nD) : Nat :=
  let c0_i32_2907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2882 : BitVec 32 := 15#32
  let v3930 : BitVec 32 := Scalar.subi v2 c15_i32_2882
  let c16_i32_2883 : BitVec 32 := 16#32
  let c0_i32_2884 : BitVec 32 := 0#32
  let v3931 : BitVec 1 := Scalar.cmpi .eq c16_i32_2883 c0_i32_2884
  let c1_i32_2885 : BitVec 32 := 1#32
  let v3932 : BitVec 32 := Scalar.select v3931 c1_i32_2885 c16_i32_2883
  let v3933 : BitVec 32 := Scalar.remsi v3930 v3932
  let c0_i32_2887 : BitVec 32 := 0#32
  let v3935 : BitVec 1 := Scalar.cmpi .slt v3933 c0_i32_2887
  let c0_i32_2888 : BitVec 32 := 0#32
  let v3936 : BitVec 1 := Scalar.cmpi .slt v3932 c0_i32_2888
  let v3937 : BitVec 1 := Scalar.xori v3935 v3936
  let c0_i32_2886 : BitVec 32 := 0#32
  let v3934 : BitVec 1 := Scalar.cmpi .ne v3933 c0_i32_2886
  let v3938 : BitVec 1 := Scalar.andi v3937 v3934
  let v3939 : BitVec 32 := Scalar.addi v3933 v3932
  let v3940 : BitVec 32 := Scalar.select v3938 v3939 v3933
  let c1_i32_2906 : BitVec 32 := 1#32
  let v3966 : BitVec 32 := Scalar.muli v3940 c1_i32_2906
  let v3967 : BitVec 32 := Scalar.addi c0_i32_2907 v3966
  v3967.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x128 : Shape := ⟨2, ![2048, 128]⟩
abbrev S128x4096 : Shape := ⟨2, ![128, 4096]⟩
abbrev S4096x128 : Shape := ⟨2, ![4096, 128]⟩
abbrev S2048x4096 : Shape := ⟨2, ![2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S128x4096, .f32⟩
  | .hbm, ⟨2, _⟩ => ⟨S4096x128, .f32⟩
  | .hbm, ⟨3, _⟩ => ⟨S128x4096, .f32⟩
  | .hbm, ⟨4, _⟩ => ⟨S4096x128, .f32⟩
  | .hbm, ⟨5, _⟩ => ⟨S128x4096, .f32⟩
  | .hbm, ⟨6, _⟩ => ⟨S4096x128, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x128, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x128, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Mem.lean ====
/-
# The scratch buffers by slots

Each of the three scratch buffers is sixteen slots of one 128 × 128 block. A slot is held by the elements its
rectangle covers, at contents named by the block it holds. The lemmas here are the two ways a slot changes (a store
through its rectangle, a transfer through its squeezed view), and the passage between a whole buffer and its slots.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Tactic

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × URounds (GSem nD τ sig) (Dev nD)

local notation "𝕄" => MT nD τ sig ℕ (Elt F) ℕ UU ℕ

abbrev EP : Emb (UR sig nD τ) (MT nD τ sig ℕ (Elt F) ℕ UU ℕ) := embL
abbrev ER : Emb (URounds (GSem nD τ sig) (Dev nD)) (MT nD τ sig ℕ (Elt F) ℕ UU ℕ) := embR

/-! ## Views and representatives -/

section Views

variable {κ : Kind} {sp sp' : Space} {s s' : Shape} {e : EltTy} {Val : EltTy → Type} [∀ e, Nonempty (Val e)]

/-- A full write leaves, on the view's own elements, the representative of what was written. -/
theorem write_eq_rep (v : View sig κ sp s e) (f : v.ty.Contents Val) (w : s.Idx → Val e) :
    ∀ i ∈ v.set, v.write Val f w Finset.univ i = v.rep w i := by
  intro i hi
  obtain ⟨y, rfl⟩ := v.exists_emb_of_mem_set hi
  rw [View.write_emb_of_mem _ _ (Finset.mem_univ _), View.rep_emb]

/-- A full write through a reshaped view of what another reshaped view reads leaves the other's values. -/
theorem write_reshape_eq_rep (v : View sig κ sp s e) (v' : View sig κ sp' s e) (h h' : s'.numel = s.numel)
    (f : v.ty.Contents Val) (w : s.Idx → Val e) :
    ∀ i ∈ v.set, (v.reshape s' h).write Val f ((v'.reshape s' h').read Val (v'.rep w)) Finset.univ i = v.rep w i := by
  intro i hi
  obtain ⟨y, rfl⟩ := v.exists_emb_of_mem_set hi
  obtain ⟨x, rfl⟩ := (Shape.reshapeEquiv h).surjective y
  have hx : v.emb (Shape.reshapeEquiv h x) = (v.reshape s' h).emb x := rfl
  rw [hx, View.write_emb_of_mem _ _ (Finset.mem_univ _), ← hx, View.rep_emb]
  congr 1
  have := congrFun (View.read_rep v' w) (Shape.reshapeEquiv h x)
  exact this

end Views

/-! ## Slots -/

theorem slotInb (p : Dev nD) : ∀ a, (![p.val, 0, 0] : Fin 3 → ℕ) a + S1x128x128.size a ≤ S16x128x128.size a := by
  revert p; decide +kernel

/-- Slot `p`'s rectangle. -/
abbrev slotRect (p : Dev nD) : Rect S16x128x128 := Rect.unit (s := S16x128x128) ![p.val, 0, 0] S1x128x128.size (slotInb p)

theorem slot_exists_emb (i : S16x128x128.Idx) (p : Dev nD) (h : (i 0).val = p.val) :
    (slotRect p).emb (fun a => ⟨if a = 0 then 0 else (i a).val, by
      fin_cases a
      · exact Nat.zero_lt_one
      · exact (i 1).isLt
      · exact (i 2).isLt⟩) = i := by
  funext a
  refine Fin.ext ?_
  rw [Rect.emb_apply]
  fin_cases a
  · show p.val + 1 * 0 = _; rw [h.symm]; rfl
  · show 0 + 1 * (i 1).val = _; simp
  · show 0 + 1 * (i 2).val = _; simp

theorem slot_emb_zero (p : Dev nD) (y : (slotRect p).shape.Idx) : (((slotRect p).emb y : S16x128x128.Idx) 0).val = p.val := by
  have hy : (y 0).val = 0 := by have : (y 0).val < 1 := (y 0).isLt; omega
  rw [Rect.emb_apply]
  show p.val + 1 * (y 0).val = p.val
  rw [hy]; simp

abbrev Buf3 := Memref sig .tc .vmem S16x128x128 .bf16
abbrev xM : Buf3 := Memref.whole cc0_scratch0
abbrev pM : Buf3 := Memref.whole cc0_scratch1
abbrev rM : Buf3 := Memref.whole cc0_scratch2

abbrev Blk (F : FTy → Type) := Vec F S1x128x128 .bf16

/-- Slot `p` of buffer `M` on device `c`, at share `q`, holding the block `Y`. -/
def slot (M : Buf3) (c p : Dev nD) (q : PosShare TreeShare) (Y : Blk F) : sProp 𝕄 :=
  (M.access (slotRect p)).loc (Dev.tc c) ↦[(M.access (slotRect p)).set]{q} (M.access (slotRect p)).rep Y

/-- Slot `p` of buffer `M` on device `c`, whole, holding anything. -/
def slotAny (M : Buf3) (c p : Dev nD) : sProp 𝕄 :=
  iprop(∃ f : Buf (Elt F) ((M.access (slotRect p)).loc (Dev.tc c)), (M.access (slotRect p)).loc (Dev.tc c) ↦[(M.access (slotRect p)).set]{fullShare} f)

theorem slot_any (M : Buf3) (c p : Dev nD) (Y : Blk F) : slot M c p fullShare Y ⊢ slotAny (F := F) M c p := by
  unfold slot slotAny
  iintro H
  iexists (M.access (slotRect p)).rep Y
  iexact H

instance slot_storable (M : Buf3) (c p : Dev nD) (q : PosShare TreeShare) (Y : Blk F) : BI.Storable (upEmb : UEmb _ 𝕄) (slot M c p q Y) := by
  unfold slot; infer_instance
instance slotAny_storable (M : Buf3) (c p : Dev nD) : BI.Storable (upEmb : UEmb _ 𝕄) (slotAny (F := F) M c p) := by
  unfold slotAny; infer_instance

/-- A slot dealt among the devices. -/
theorem slot_deal (M : Buf3) (c p : Dev nD) (Y : Blk F) :
    (slot M c p fullShare Y : sProp 𝕄) = bigSep Finset.univ fun d : Dev nD => slot M c p (Transfers.dealOf fullShare (Finset.univ : Finset (Dev nD)) d) Y :=
  Transfers.pointsTo_deal _ Finset.univ_nonempty _

/-! ## A whole buffer and its slots -/

theorem slot_disj (M : Buf3) : ∀ t ∈ (Finset.univ : Finset (Dev nD)), ∀ t' ∈ (Finset.univ : Finset (Dev nD)), t ≠ t' →
    Disjoint (M.access (slotRect t)).set (M.access (slotRect t')).set := by
  intro t _ t' _ h
  rw [Finset.disjoint_left]
  intro i hi hi'
  obtain ⟨y, rfl⟩ := View.exists_emb_of_mem_set _ hi
  obtain ⟨y', e⟩ := View.exists_emb_of_mem_set _ hi'
  have e' : (slotRect t').emb y' = (slotRect t).emb y := M.view.emb.injective e
  have := congrArg (fun i : S16x128x128.Idx => (i 0).val) e'
  simp only [slot_emb_zero] at this
  exact h (Fin.ext this.symm)

theorem slot_cover (M : Buf3) : (Finset.univ : Finset (Dev nD)).biUnion (fun p => (M.access (slotRect p)).set) = M.view.set := by
  ext i
  rw [Finset.mem_biUnion]
  constructor
  · rintro ⟨p, -, hi⟩
    obtain ⟨y, rfl⟩ := View.exists_emb_of_mem_set _ hi
    exact View.emb_mem_set _ _
  · intro hi
    obtain ⟨y, rfl⟩ := View.exists_emb_of_mem_set _ hi
    refine ⟨(⟨(y 0).val, (y 0).isLt⟩ : Dev nD), Finset.mem_univ _, ?_⟩
    have := slot_exists_emb y (⟨(y 0).val, (y 0).isLt⟩ : Dev nD) rfl
    conv => rhs; rw [← this]
    exact View.emb_mem_set (M.access (slotRect (⟨(y 0).val, (y 0).isLt⟩ : Dev nD))) _

/-- The sixteen blocks as one array. -/
def glue (Y : Dev nD → Blk F) : Vec F S16x128x128 .bf16 :=
  fun i => Y (i 0) (ValIdx i)
where
  ValIdx (i : S16x128x128.Idx) : S1x128x128.Idx := fun a => ⟨if a = 0 then 0 else (i a).val, by
      fin_cases a
      · exact Nat.zero_lt_one
      · exact (i 1).isLt
      · exact (i 2).isLt⟩

theorem glue_emb (Y : Dev nD → Blk F) (p : Dev nD) (y : S1x128x128.Idx) : glue Y ((slotRect p).emb y) = Y p y := by
  have h0 : ((slotRect p).emb y : S16x128x128.Idx) 0 = p := Fin.ext (slot_emb_zero p y)
  unfold glue
  rw [h0]
  congr 1
  funext a
  refine Fin.ext ?_
  have hy : (y 0).val = 0 := by have : (y 0).val < 1 := (y 0).isLt; omega
  fin_cases a
  · exact hy.symm
  · show 0 + 1 * (y 1).val = _; simp
  · show 0 + 1 * (y 2).val = _; simp

theorem slots_of_whole (M : Buf3) (c : Dev nD) (f : Buf (Elt F) (M.view.loc (Dev.tc c))) :
    (M.view.loc (Dev.tc c) ↦[M.view.set]{fullShare} f : sProp 𝕄) ⊢ bigSep Finset.univ fun p => slotAny (F := F) M c p := by
  rw [← slot_cover M, pointsTo_biUnion _ _ (slot_disj M)]
  refine bigSep_mono fun p _ => ?_
  unfold slotAny
  exact exists_intro (Φ := fun f : Buf (Elt F) ((M.access (slotRect p)).loc (Dev.tc c)) =>
    ((M.access (slotRect p)).loc (Dev.tc c) ↦[(M.access (slotRect p)).set]{fullShare} f : sProp 𝕄)) f

theorem whole_of_slots (M : Buf3) (c : Dev nD) (Y : Dev nD → Blk F) :
    (bigSep Finset.univ fun p => slot M c p fullShare (Y p) : sProp 𝕄) = (M.view.loc (Dev.tc c) ↦[M.view.set]{fullShare} M.view.rep (glue Y)) := by
  rw [← slot_cover M, pointsTo_biUnion _ _ (slot_disj M)]
  refine bigSep_congr fun p _ => ?_
  refine pointsTo_congr fun i hi => ?_
  obtain ⟨y, rfl⟩ := View.exists_emb_of_mem_set _ hi
  rw [View.rep_emb]
  show _ = M.view.rep (glue Y) (M.view.emb ((slotRect p).emb y))
  rw [View.rep_emb, glue_emb]

theorem any_of_slots (M : Buf3) (c : Dev nD) :
    (bigSep Finset.univ fun p => slotAny (F := F) M c p : sProp 𝕄) ⊢ iprop(∃ f : Buf (Elt F) (M.view.loc (Dev.tc c)), M.view.loc (Dev.tc c) ↦[M.view.set]{fullShare} f) := by
  refine (bigSep_exists_pi Finset.univ (fun p (f : Buf (Elt F) ((M.access (slotRect p)).loc (Dev.tc c))) =>
    ((M.access (slotRect p)).loc (Dev.tc c) ↦[(M.access (slotRect p)).set]{fullShare} f : sProp 𝕄))).trans ?_
  iintro ⟨%fs, H⟩
  ihave ⟨%g, -, H⟩ := (pointsTo_biUnion_join (ℓ := M.view.loc (Dev.tc c)) (q := fullShare) Finset.univ
    (fun p : Dev nD => (M.access (slotRect p)).set) fs (M.view.junk) (slot_disj M)) $$ H
  iexists g
  rw [slot_cover M]
  iexact H

end Cert.MlpProof
end
-- ==== Proof.Proto.lean ====
/-
# The protocol of the three exchanges

Every device has twenty semaphore cells: the barrier, the two send cells, the cell the partial products land on, and
one cell per peer the peer's activations land on. Rounds are the layers. A duty of a cell is named by the device at the
other end of the transfer.
-/
module

public import proofs.«01_k».proof.Proof.Mem
public import Mathlib.Tactic.DeriveFintype
public import Mathlib.Algebra.BigOperators.Intervals

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Neighbours -/

/-- The device `i + 1` places up the ring. -/
def up (c : Dev nD) (i : ℕ) : Dev nD := ⟨(c.val + 1 + i) % 16, Nat.mod_lt _ (by decide)⟩
/-- The device `i + 1` places down the ring. -/
def dn (c : Dev nD) (i : ℕ) : Dev nD := ⟨(c.val + 15 - i) % 16, Nat.mod_lt _ (by decide)⟩

theorem up_ne (c : Dev nD) {i : ℕ} (h : i < 15) : up c i ≠ c := fun e => by
  have h1 : (c.val + 1 + i) % 16 = c.val := congrArg Fin.val e
  have h2 : c.val < 16 := c.isLt
  omega
theorem dn_ne (c : Dev nD) {i : ℕ} (h : i < 15) : dn c i ≠ c := fun e => by
  have h1 : (c.val + 15 - i) % 16 = c.val := congrArg Fin.val e
  have h2 : c.val < 16 := c.isLt
  omega
theorem up_dn (c : Dev nD) {i : ℕ} (h : i < 15) : up (dn c i) i = c := by
  refine Fin.ext ?_
  have h2 : c.val < 16 := c.isLt
  show ((c.val + 15 - i) % 16 + 1 + i) % 16 = c.val
  omega
theorem dn_up (c : Dev nD) {i : ℕ} (h : i < 15) : dn (up c i) i = c := by
  refine Fin.ext ?_
  have h2 : c.val < 16 := c.isLt
  show ((c.val + 1 + i) % 16 + 15 - i) % 16 = c.val
  omega

theorem up_image (c : Dev nD) : (Finset.Ico 0 15).image (up c) = Finset.univ.erase c := by revert c; decide +kernel
theorem dn_image (c : Dev nD) : (Finset.Ico 0 15).image (dn c) = Finset.univ.erase c := by revert c; decide +kernel
theorem up_inj (c : Dev nD) : Set.InjOn (up c) (Finset.Ico 0 15 : Finset ℕ) := by
  intro i hi j hj e
  have h1 : (c.val + 1 + i) % 16 = (c.val + 1 + j) % 16 := congrArg Fin.val e
  simp only [Finset.coe_Ico, Set.mem_Ico] at hi hj
  omega
theorem dn_inj (c : Dev nD) : Set.InjOn (dn c) (Finset.Ico 0 15 : Finset ℕ) := by
  intro i hi j hj e
  have h1 : (c.val + 15 - i) % 16 = (c.val + 15 - j) % 16 := congrArg Fin.val e
  simp only [Finset.coe_Ico, Set.mem_Ico] at hi hj
  have h2 : c.val < 16 := c.isLt
  omega

/-- Over the peers up the ring, and over the peers down the ring: over every other device. -/
theorem bigSep_up (c : Dev nD) (Φ : Dev nD → sProp 𝕄) : bigSep (Finset.Ico 0 15) (fun i => Φ (up c i)) = bigSep (Finset.univ.erase c) Φ := by
  rw [← up_image c]; exact (bigSep_image_of_injOn (up_inj c) Φ).symm
theorem bigSep_dn (c : Dev nD) (Φ : Dev nD → sProp 𝕄) : bigSep (Finset.Ico 0 15) (fun i => Φ (dn c i)) = bigSep (Finset.univ.erase c) Φ := by
  rw [← dn_image c]; exact (bigSep_image_of_injOn (dn_inj c) Φ).symm

/-! ## The cells -/

/-- A device's cells: the barrier, the activations' send cell, the partial products' send cell, the partial products'
    landing cell, and the landing cell of the activations of device `p`. -/
inductive Cell
  | bar | ags | rss | rsr
  | agr (p : Dev nD)
  deriving DecidableEq, Fintype

def barSem : Sem sig := (SemArray.scalar (sig.barrier 0 rfl) : Sems sig S_).sem
def agrSem (p : Dev nD) : DmaSem sig := ⟨9 + p.val, by have h : p.val < 16 := p.isLt; show 9 + p.val < 27; omega⟩

def Cell.sem : Cell → SemLoc sig
  | .bar => .reg barSem
  | .ags => .dma (cc0_scratch3 : DmaSems sig S_).sem
  | .rss => .dma (cc0_scratch5 : DmaSems sig S_).sem
  | .rsr => .dma (cc0_scratch6 : DmaSems sig S_).sem
  | .agr p => .dma (agrSem p)

/-- Which cell a semaphore is. -/
def kind : SemLoc sig → Option Cell
  | .reg s => if s = barSem then some .bar else none
  | .dma q => if q.val = 8 then some .ags else if q.val = 25 then some .rss else if q.val = 26 then some .rsr
      else if h : 9 ≤ q.val ∧ q.val < 25 then some (.agr ⟨q.val - 9, by show q.val - 9 < 16; omega⟩) else none

theorem kind_sem (k : Cell) : kind k.sem = some k := by
  cases k with
  | agr p => revert p; decide +kernel
  | _ => decide +kernel

theorem sem_inj : Function.Injective Cell.sem := fun a b h => by
  have := congrArg kind h
  rw [kind_sem, kind_sem] at this
  exact Option.some.inj this

abbrev gcell (c : Dev nD) (k : Cell) : GSem nD τ sig := (Dev.tc c, k.sem)

/-- The units of one slot. -/
def N : ℕ := sig.dmaCredit .tc (Kind.tc.table .vmem) xM.view.buf S128x128 .bf16

theorem N_pos : 0 < N := sig.dmaCredit_pos _ _ _ _ _ (by decide)

/-! ## The schedule -/

abbrev shr (d : Dev nD) : PosShare TreeShare := Transfers.dealOf fullShare (Finset.univ : Finset (Dev nD)) d

variable (X : ℕ → Dev nD → Blk F) (P : ℕ → Dev nD → Dev nD → Blk F)

def duty (c : Dev nD) (k : Cell) (r : ℕ) : Finset (Dev nD) :=
  match k with
  | .bar => if r = 0 then Finset.univ.erase c else ∅
  | .agr p => if r < 3 ∧ p ≠ c then {p} else ∅
  | _ => if r < 3 then Finset.univ.erase c else ∅

def amt (k : Cell) : ℕ := match k with | .bar => 1 | _ => N

/-- What the partial product's sender hands on besides it: its own slot for the receiver's next activations. -/
def back (r : ℕ) (c d : Dev nD) : sProp 𝕄 :=
  if r < 2 then iprop(slotAny xM d c ∗ reached ER (gcell d (.agr c)) (r + 1)) else iprop(emp)

/-- What duty `d` of round `r` of cell `k` of device `c` hands over. -/
def pay (c : Dev nD) (k : Cell) (r : ℕ) (d : Dev nD) : sProp 𝕄 :=
  match k with
  | .bar => slotAny xM d c
  | .ags => slot xM c c (shr d) (X r c)
  | .rss => slotAny pM c d
  | .rsr => iprop(slot rM c d fullShare (P r d c) ∗ back r c d)
  | .agr p => iprop(slot xM c p fullShare (X r p) ∗ slotAny rM p c ∗ reached ER (gcell p .rsr) r)

instance back_storable (r : ℕ) (c d : Dev nD) : BI.Storable (upEmb : UEmb _ 𝕄) (back (F := F) r c d) := by
  unfold back; split <;> infer_instance

instance pay_storable (c : Dev nD) (k : Cell) (r : ℕ) (d : Dev nD) : BI.Storable (upEmb : UEmb _ 𝕄) (pay X P c k r d) := by
  unfold pay; cases k <;> infer_instance

def Rd : Rounds.Schedule (GSem nD τ sig) (Dev nD) 𝕄 where
  duties g r := if g.1.2 = .tc then (match kind g.2 with | some k => duty g.1.1 k r | none => ∅) else ∅
  amount g _ _ := match kind g.2 with | some k => amt k | none => 1
  payload g r d := match kind g.2 with | some k => pay X P g.1.1 k r d | none => iprop(emp)
  amount_pos g _ _ _ := by
    cases kind g.2 with
    | none => exact Nat.one_pos
    | some k => cases k <;> first | exact Nat.one_pos | exact N_pos
  unitless _ := False

instance Rd_payload_storable (g : GSem nD τ sig) (r : ℕ) (d : Dev nD) : BI.Storable (upEmb : UEmb _ 𝕄) ((Rd X P).payload g r d) := by
  show BI.Storable upEmb (match kind g.2 with | some k => pay X P g.1.1 k r d | none => iprop(emp))
  cases kind g.2 <;> infer_instance

theorem Rd_duties (c : Dev nD) (k : Cell) (r : ℕ) : (Rd X P).duties (gcell c k) r = duty c k r := by
  show (if (Dev.tc c : Thread nD τ).2 = .tc then (match kind k.sem with | some k => duty c k r | none => ∅) else ∅) = _
  rw [kind_sem]; exact if_pos rfl
theorem Rd_amount (c : Dev nD) (k : Cell) (r : ℕ) (d : Dev nD) : (Rd X P).amount (gcell c k) r d = amt k := by
  show (match kind k.sem with | some k => amt k | none => 1) = _
  rw [kind_sem]
theorem Rd_payload (c : Dev nD) (k : Cell) (r : ℕ) (d : Dev nD) : (Rd X P).payload (gcell c k) r d = pay X P c k r d := by
  show (match kind k.sem with | some k => pay X P c k r d | none => iprop(emp)) = _
  rw [kind_sem]
theorem Rd_expect (c : Dev nD) (k : Cell) (r : ℕ) : (Rd X P).expect (gcell c k) r = (duty c k r).card * amt k := by
  unfold Schedule.expect Schedule.amountOf
  rw [Rd_duties, Finset.sum_congr rfl fun d _ => Rd_amount X P c k r d, Finset.sum_const, smul_eq_mul]

/-- A cell's rounds end. -/
def lastRound : Cell → ℕ | .bar => 1 | _ => 3

theorem duty_later (c : Dev nD) (k : Cell) (r : ℕ) (h : lastRound k ≤ r) : duty c k r = ∅ := by
  unfold lastRound at h
  unfold duty
  cases k with
  | bar => exact if_neg (by simp only at h; omega)
  | agr p => exact if_neg (by simp only at h; omega)
  | _ => exact if_neg (by simp only at h; omega)

theorem duty_self (c : Dev nD) (r : ℕ) : duty c (.agr c) r = ∅ := if_neg (fun h => h.2 rfl)

theorem card_erase (c : Dev nD) : ((Finset.univ : Finset (Dev nD)).erase c).card = 15 := by revert c; decide +kernel

/-! ## Levels -/

def L (g : GSem nD τ sig) : Finset ℕ := if g.1.2 = .tc then Finset.range 3 else ∅
def lv (g : GSem nD τ sig) (r : ℕ) : ℕ :=
  match kind g.2 with
  | some .bar => 1
  | some (.agr _) => 2 + 2 * r
  | some .rsr => 3 + 2 * r
  | _ => 0

def lvk (k : Cell) (r : ℕ) : ℕ :=
  match k with
  | .bar => 1
  | .agr _ => 2 + 2 * r
  | .rsr => 3 + 2 * r
  | _ => 0

theorem lv_cell (c : Dev nD) (k : Cell) (r : ℕ) : lv (gcell c k) r = lvk k r := by
  show (match kind k.sem with | some .bar => 1 | some (.agr _) => 2 + 2 * r | some .rsr => 3 + 2 * r | _ => 0) = _
  rw [kind_sem]; cases k <;> rfl

theorem L_of_ne (g : GSem nD τ sig) (h : g.1.2 ≠ .tc) : L g = ∅ := if_neg h
theorem L_tc (c : Dev nD) (sm : SemLoc sig) : L ((c : Thread nD τ), sm) = Finset.range 3 := if_pos rfl

/-- Everything owed is at a level above `n`. -/
def Above (n : ℕ) (O : CellTallies nD τ sig ℕ) : Prop := ∀ g u, 0 < O g u → u ∈ L g ∧ n < lv g u

theorem Above.zero (n : ℕ) : Above n 0 := fun g u h => absurd h (Nat.lt_irrefl 0)
theorem Above.add {n : ℕ} {O O' : CellTallies nD τ sig ℕ} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.sum {n : ℕ} {ι : Type} (s : Finset ι) {O : ι → CellTallies nD τ sig ℕ} (h : ∀ i ∈ s, Above n (O i)) : Above n (∑ i ∈ s, O i) := by
  classical
  induction s using Finset.induction_on with
  | empty => rw [Finset.sum_empty]; exact Above.zero n
  | insert a s ha ih =>
    rw [Finset.sum_insert ha]
    exact (h a (Finset.mem_insert_self _ _)).add (ih fun i hi => h i (Finset.mem_insert_of_mem hi))
theorem Above.at {n : ℕ} (c : Dev nD) (k : Cell) {r : ℕ} (m : ℕ) (hr : r < 3) (h : n < lvk k r) : Above n (tallyAt (gcell c k) r m) := fun g u hg => by
  obtain ⟨rfl, rfl⟩ := Pipeline.tallyAt_pos hg
  exact ⟨by rw [L_tc]; exact Finset.mem_range.mpr hr, by rw [lv_cell]; exact h⟩

/-- A wait at round `r` of a cell is allowed below what is owed. -/
theorem mayWait (c : Dev nD) (sm : SemLoc sig) (r : ℕ) (hr : r < 3) (O : CellTallies nD τ sig ℕ) (hO : Above (lv ((c : Thread nD τ), sm) r) O) :
    (levAts L lv : sProp 𝕄) ⊢ MayWait (c : Thread nD τ) sm r O :=
  MayOwe.of_cut (L := L) (lev := lv) (lv ((c : Thread nD τ), sm) r)
    (fun p hp => by rw [Finset.mem_singleton.mp hp, L_tc]; exact Finset.mem_range.mpr hr)
    (fun g u hg => (hO g u hg).1)
    (fun p hp => by rw [Finset.mem_singleton.mp hp])
    (fun g u hg => (hO g u hg).2)

/-! ## What is owed -/

def agT (c : Dev nD) (ℓ i : ℕ) : CellTallies nD τ sig ℕ := tallyAt (gcell (up c i) (.agr c)) ℓ N
def rsT (c : Dev nD) (ℓ i : ℕ) : CellTallies nD τ sig ℕ := tallyAt (gcell (dn c i) .rsr) ℓ N

/-- The peers whose number is at least `k`: those the barrier signals still go to. -/
def peers (c : Dev nD) (k : ℕ) : Finset (Dev nD) := Finset.univ.filter fun p => k ≤ p.val ∧ p ≠ c

theorem peers_zero (c : Dev nD) : peers c 0 = Finset.univ.erase c := by
  ext p; simp [peers]
theorem peers_end (c : Dev nD) : peers c 16 = ∅ := by
  ext p
  have h : p.val < 16 := p.isLt
  simp only [peers, Finset.mem_filter, Finset.notMem_empty, iff_false]
  omega
theorem peers_step (c p : Dev nD) (h : p ≠ c) : peers c p.val = insert p (peers c (p.val + 1)) := by
  ext q
  simp only [peers, Finset.mem_filter, Finset.mem_insert, Finset.mem_univ, true_and]
  constructor
  · rintro ⟨h1, h2⟩
    rcases Nat.eq_or_lt_of_le h1 with h3 | h3
    · exact .inl (Fin.ext h3.symm)
    · exact .inr ⟨h3, h2⟩
  · rintro (rfl | ⟨h1, h2⟩)
    · exact ⟨le_rfl, h⟩
    · exact ⟨by omega, h2⟩
theorem peers_notMem (c p : Dev nD) : p ∉ peers c (p.val + 1) := by
  simp only [peers, Finset.mem_filter, not_and]
  intro _ h
  omega
theorem peers_skip (c : Dev nD) : peers c c.val = peers c (c.val + 1) := by
  ext q
  simp only [peers, Finset.mem_filter, Finset.mem_univ, true_and]
  constructor
  · rintro ⟨h1, h2⟩
    refine ⟨?_, h2⟩
    rcases Nat.eq_or_lt_of_le h1 with h3 | h3
    · exact absurd (Fin.ext h3.symm) h2
    · exact h3
  · rintro ⟨h1, h2⟩
    exact ⟨by omega, h2⟩

/-- The barrier signals still to be given from peer `k` on. -/
def barO (c : Dev nD) (k : ℕ) : CellTallies nD τ sig ℕ := ∑ p ∈ peers c k, tallyAt (gcell p .bar) 0 1

/-- The activations of layer `ℓ` still to be sent after `j`. -/
def agO (c : Dev nD) (ℓ j : ℕ) : CellTallies nD τ sig ℕ := ∑ i ∈ Finset.Ico j 15, agT c ℓ i
/-- The partial products of layer `ℓ` still to be sent after `j`. -/
def rsO (c : Dev nD) (ℓ j : ℕ) : CellTallies nD τ sig ℕ := ∑ i ∈ Finset.Ico j 15, rsT c ℓ i
/-- Everything of the layers from `ℓ` on. -/
def later (c : Dev nD) (ℓ : ℕ) : CellTallies nD τ sig ℕ := ∑ r ∈ Finset.Ico ℓ 3, (agO c r 0 + rsO c r 0)

theorem agO_step (c : Dev nD) (ℓ : ℕ) {j : ℕ} (h : j < 15) : agO c ℓ j = agT c ℓ j + agO c ℓ (j + 1) := Finset.sum_eq_sum_Ico_succ_bot h _
theorem rsO_step (c : Dev nD) (ℓ : ℕ) {j : ℕ} (h : j < 15) : rsO c ℓ j = rsT c ℓ j + rsO c ℓ (j + 1) := Finset.sum_eq_sum_Ico_succ_bot h _
theorem later_step (c : Dev nD) {ℓ : ℕ} (h : ℓ < 3) : later c ℓ = (agO c ℓ 0 + rsO c ℓ 0) + later c (ℓ + 1) := Finset.sum_eq_sum_Ico_succ_bot h _
theorem agO_end (c : Dev nD) (ℓ : ℕ) : agO c ℓ 15 = 0 := by unfold agO; rw [Finset.Ico_self, Finset.sum_empty]
theorem rsO_end (c : Dev nD) (ℓ : ℕ) : rsO c ℓ 15 = 0 := by unfold rsO; rw [Finset.Ico_self, Finset.sum_empty]
theorem later_end (c : Dev nD) : later c 3 = 0 := by unfold later; rw [Finset.Ico_self, Finset.sum_empty]

theorem above_agO (c : Dev nD) {ℓ j n : ℕ} (hℓ : ℓ < 3) (h : n < 2 + 2 * ℓ) : Above n (agO c ℓ j) :=
  Above.sum _ fun i _ => Above.at _ _ _ hℓ h
theorem above_rsO (c : Dev nD) {ℓ j n : ℕ} (hℓ : ℓ < 3) (h : n < 3 + 2 * ℓ) : Above n (rsO c ℓ j) :=
  Above.sum _ fun i _ => Above.at _ _ _ hℓ h
theorem above_barO (c : Dev nD) {k n : ℕ} (h : n < 1) : Above n (barO c k) :=
  Above.sum _ fun i _ => Above.at _ _ _ (by decide) h
theorem above_later (c : Dev nD) {ℓ n : ℕ} (h : n < 2 + 2 * ℓ) : Above n (later c ℓ) :=
  Above.sum _ fun r hr => by
    have := Finset.mem_Ico.mp hr
    exact (above_agO c this.2 (by omega)).add (above_rsO c this.2 (by omega))

end Cert.MlpProof
end
-- ==== Proof.Steps.lean ====
/-
# Single operations on slots and cells

What each kind of operation of the kernel takes and gives back, for any continuation.
-/
module

public import proofs.«01_k».proof.Proof.Proto
public import Idealize.SL.BI.BigOpNat

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

abbrev Pg (F : FTy → Type) (α : Type) := Prog (TpuEff nD τ sig (Elt F) Λ₀ .tc) α

/-- The weakest precondition of a program on the TensorCore of device `c`. -/
abbrev WP (c : Dev nD) {α : Type} (p : Pg F α) (Q : α → sProp 𝕄) : sProp 𝕄 :=
  wp frame (wpE (defs₀ (F := F)) 𝒱₀ (Dev.tc c) none) Set.univ p Q

section Lifts

variable {c : Dev nD} {α β : Type} {S S' : sProp (MT nD τ sig ℕ (Elt F) ℕ UU ℕ)}

theorem WP_bind {p : Pg F α} {k : α → Pg F β} {Q : β → sProp 𝕄} (h : S ⊢ WP c p fun x => WP c (k x) Q) : S ⊢ WP c (p >>= k) Q := by
  show S ⊢ wp frame (wpE (defs₀ (F := F)) 𝒱₀ (Dev.tc c) none) Set.univ (p >>= k) Q
  rw [wp_bind]; exact h

theorem WP_ret {x : α} {Q : α → sProp 𝕄} (h : S ⊢ Q x) : S ⊢ WP c (.ret x : Pg F α) Q := by
  refine h.trans ?_
  show Q x ⊢ wp frame (wpE (defs₀ (F := F)) 𝒱₀ (Dev.tc c) none) Set.univ (.ret x) Q
  rw [wp_ret]
  iintro H
  imodintro
  iexact H

theorem WP_pure {x : α} {Q : α → sProp 𝕄} (h : S ⊢ Q x) : S ⊢ WP c (pure x : Pg F α) Q := WP_ret h

theorem WP_device {Q : Dev nD → sProp 𝕄} (h : S ⊢ Q c) : S ⊢ WP c (Prog.lift (.deviceId) : Pg F (Dev nD)) Q := by
  refine (WP_ret (c := c) h).trans ?_
  show _ ⊢ wp frame (wpE (defs₀ (F := F)) 𝒱₀ (Dev.tc c) none) Set.univ (.op .deviceId .ret) Q
  rw [wp_deviceId]

/-- A load of a slot. -/
theorem lift_load (M : Buf3) (p : Dev nD) (q : PosShare TreeShare) (Y : Blk F) {off : Fin 3 → ℕ}
    (hoff : off = ![p.val, 0, 0]) {inb} {hl} {Q : Blk F → sProp 𝕄}
    (hS : S ⊢ iprop(slot M c p q Y ∗ S')) (h : iprop(slot M c p q Y ∗ S') ⊢ Q Y) :
    S ⊢ WP c (Prog.lift (.load M (Rect.unit (s := S16x128x128) off S1x128x128.size inb).toLoadRect hl)) Q := by
  subst hoff
  refine hS.trans ?_
  unfold WP Prog.lift
  unfold slot at h ⊢
  iintro ⟨H, HS⟩
  iapply (wp_load_rect (defs := defs₀ (F := F)) 𝒱₀ (Dev.tc c) none Set.univ (m := M) (r := slotRect p) (hl := hl) (Finset.Subset.refl _)) $$ H
  iintro H
  rw [View.read_rep, wp_ret]
  imodintro
  iapply h
  isplitl [H] <;> iassumption

/-- A load of a slot holding anything. -/
theorem lift_load_any (M : Buf3) (p : Dev nD) {off : Fin 3 → ℕ}
    (hoff : off = ![p.val, 0, 0]) {inb} {hl} {Q : Blk F → sProp 𝕄}
    (hS : S ⊢ iprop(slotAny M c p ∗ S')) (h : ∀ v, iprop(slotAny M c p ∗ S') ⊢ Q v) :
    S ⊢ WP c (Prog.lift (.load M (Rect.unit (s := S16x128x128) off S1x128x128.size inb).toLoadRect hl)) Q := by
  subst hoff
  refine hS.trans ?_
  unfold WP Prog.lift
  unfold slotAny
  iintro ⟨⟨%f, H⟩, HS⟩
  iapply (wp_load_rect (defs := defs₀ (F := F)) 𝒱₀ (Dev.tc c) none Set.univ (m := M) (r := slotRect p) (hl := hl) (Finset.Subset.refl _)) $$ H
  iintro H
  rw [wp_ret]
  imodintro
  iapply (h _)
  isplitl [H]
  · unfold slotAny; iexists f; iexact H
  · iassumption

/-- A store over a slot. -/
theorem lift_store (M : Buf3) (p : Dev nD) {off : Fin 3 → ℕ}
    (hoff : off = ![p.val, 0, 0]) {inb} {w : Blk F} {hx hm} {Q : PUnit → sProp 𝕄}
    (hS : S ⊢ iprop(slotAny M c p ∗ S')) (h : iprop(slot M c p fullShare w ∗ S') ⊢ Q ⟨⟩) :
    S ⊢ WP c (Prog.lift (.store M (Rect.unit (s := S16x128x128) off S1x128x128.size inb) w Finset.univ hx hm)) Q := by
  subst hoff
  refine hS.trans ?_
  unfold WP Prog.lift
  unfold slotAny
  iintro ⟨⟨%f, H⟩, HS⟩
  iapply (wp_store (defs := defs₀ (F := F)) 𝒱₀ (Dev.tc c) none Set.univ (m := M) (r := slotRect p) (Mk := Finset.univ) (hx := hx) (hm := hm)
    (S := (M.access (slotRect p)).set) (f := f) (Finset.Subset.refl _)) $$ H
  iintro H
  rw [wp_ret]
  imodintro
  iapply h
  isplitl [H]
  · unfold slot
    iapply (Entails.of_eq (pointsTo_congr (ℓ := (M.access (slotRect p)).loc (Dev.tc c)) (write_eq_rep (M.access (slotRect p)) f w)))
    iexact H
  · iassumption

end Lifts

/-! ## The cells' invariants -/

variable (X : ℕ → Dev nD → Blk F) (P : ℕ → Dev nD → Dev nD → Blk F)

/-- The levels, as every device knows them. -/
def Lev : sProp 𝕄 := levAts L lv

instance Lev_persistent : Persistent (Lev (F := F)) := by unfold Lev; infer_instance

/-- What every device knows: each cell runs its schedule, every cell has reached its first round, and the levels. -/
def Ctx (K : Dev nD × Cell → ℕ) : sProp 𝕄 :=
  iprop((bigSep Finset.univ fun p : Dev nD × Cell => cellInv ER (Rd X P) (K p) (gcell p.1 p.2))
    ∗ (bigSep Finset.univ fun p : Dev nD × Cell => reached ER (gcell p.1 p.2) 0) ∗ Lev (F := F))

instance Ctx_persistent (K : Dev nD × Cell → ℕ) : Persistent (Ctx X P K) := by unfold Ctx; infer_instance

theorem Ctx_inv (K : Dev nD × Cell → ℕ) (c : Dev nD) (k : Cell) : Ctx X P K ⊢ cellInv ER (Rd X P) (K (c, k)) (gcell c k) := by
  unfold Ctx
  have h := bigSep_elim (Φ := fun p : Dev nD × Cell => (cellInv ER (Rd X P) (K p) (gcell p.1 p.2) : sProp 𝕄)) (Finset.mem_univ (c, k))
  refine BIBase.Entails.trans ?_ h
  iintro ⟨H, -, -⟩
  iexact H

theorem Ctx_reached (K : Dev nD × Cell → ℕ) (c : Dev nD) (k : Cell) : Ctx X P K ⊢ reached ER (gcell c k) 0 := by
  unfold Ctx
  have h := bigSep_elim (Φ := fun p : Dev nD × Cell => (reached ER (gcell p.1 p.2) 0 : sProp 𝕄)) (Finset.mem_univ (c, k))
  refine BIBase.Entails.trans ?_ h
  iintro ⟨-, H, -⟩
  iexact H

/-- A wait at round `r` of a device's own cell is allowed below what is owed. -/
theorem Ctx_mayWait (K : Dev nD × Cell → ℕ) (c : Dev nD) (k : Cell) (r : ℕ) (hr : r < 3) (O : CellTallies nD τ sig ℕ) (hO : Above (lvk k r) O) :
    Ctx X P K ⊢ MayWait (Dev.tc c : Thread nD τ) k.sem r O :=
by
  have h2 : Above (lv ((c : Thread nD τ), k.sem) r) O := by
    have := lv_cell c k r
    rw [show lv ((c : Thread nD τ), k.sem) r = lvk k r from this]; exact hO
  have h3 : Lev (F := F) ⊢ MayWait (Dev.tc c : Thread nD τ) k.sem r O := mayWait (F := F) c k.sem r hr O h2
  unfold Ctx
  refine BIBase.Entails.trans ?_ h3
  iintro ⟨-, -, H⟩
  iexact H

/-- What device `c` owes. -/
def Owes (c : Dev nD) (O : CellTallies nD τ sig ℕ) : sProp 𝕄 := iprop(∃ W, owes (Dev.tc c) O W)

section Remote

variable {c : Dev nD} {S S' : sProp (MT nD τ sig ℕ (Elt F) ℕ UU ℕ)} (K : Dev nD × Cell → ℕ)

/-- The squeezed view of slot `p`, which the transfers name. -/
abbrev sq (A : Buf3) (p : Dev nD) (h : ∀ a, (slotRect p).stride a = 1) (h' : (slotRect p).shape.Squeezes S128x128) : Memref sig .tc .vmem S128x128 .bf16 :=
  (A.slice (slotRect p) h).squeeze S128x128 h'

theorem slot_sq (A : Buf3) (c p : Dev nD) (h h') (q : PosShare TreeShare) (f : Buf (Elt F) ((A.access (slotRect p)).loc (Dev.tc c : Thread nD τ))) :
    ((A.access (slotRect p)).loc (Dev.tc c : Thread nD τ) ↦[(A.access (slotRect p)).set]{q} f : sProp 𝕄)
      = ((sq A p h h').view.loc (Dev.tc c : Thread nD τ) ↦[(sq A p h h').view.set]{q} f) := by
  have : (sq A p h h').view.set = (A.access (slotRect p)).set := View.set_reshape _ _
  rw [this]

theorem slot_landed (A B : Buf3) (c p pa : Dev nD) (ha ha' hb hb') (f : Buf (Elt F) ((B.access (slotRect p)).loc (Dev.tc c : Thread nD τ))) (Y : Blk F) :
    ((sq B p hb hb').view.loc (Dev.tc c : Thread nD τ) ↦[(sq B p hb hb').view.set]{fullShare}
        ((sq B p hb hb').view.write (Elt F) f ((sq A pa ha ha').view.read (Elt F) ((A.access (slotRect pa)).rep Y)) Finset.univ) : sProp 𝕄)
      = slot B c p fullShare Y := by
  unfold slot
  rw [slot_sq B c p hb hb']
  refine pointsTo_congr fun i hi => ?_
  have : (sq B p hb hb').view.set = (B.access (slotRect p)).set := View.set_reshape _ _
  exact write_reshape_eq_rep (B.access (slotRect p)) (A.access (slotRect pa)) _ _ f Y i (this ▸ hi)

set_option maxHeartbeats 1000000 in
/-- A transfer of a slot to another device's slot. -/
theorem lift_send (A B : Buf3) (hN : sig.dmaCredit .tc (Kind.tc.table .vmem) B.view.buf S128x128 .bf16 = N)
    (pa pb c' : Dev nD) (kS kD : Cell) (q : PosShare TreeShare) (Y : Blk F) (r : ℕ) (dS dD : Dev nD)
    (E : sProp 𝕄) (O : CellTallies nD τ sig ℕ) (hkS : amt kS = N) (hkD : amt kD = N)
    (h1 : dS ∈ duty c kS r) (h2 : dD ∈ duty c' kD r)
    (hp1 : slot A c pa q Y ⊢ pay X P c kS r dS) (hp2 : iprop(slot B c' pb fullShare Y ∗ E) ⊢ pay X P c' kD r dD)
    {cd : Dev nD} (hcd : cd = c') {sS sD : DmaSem sig} (hsS : SemLoc.dma sS = kS.sem) (hsD : SemLoc.dma sD = kD.sem)
    {offa offb : Fin 3 → ℕ} (hoffa : offa = ![pa.val, 0, 0]) (hoffb : offb = ![pb.val, 0, 0])
    {inba inbb} {ha ha' hb hb' hsc hsrc hdst hsem} {Q : PUnit → sProp 𝕄}
    (hS : S ⊢ iprop(Ctx X P K ∗ slot A c pa q Y ∗ slotAny B c' pb ∗ E ∗ Owes c (O + tallyAt (gcell c' kD) r N)
      ∗ dutyTok ER (gcell c kS) r dS ∗ reached ER (gcell c kS) r ∗ dutyTok ER (gcell c' kD) r dD ∗ reached ER (gcell c' kD) r ∗ S'))
    (h : iprop(cred (tallyAt (gcell c kS) r N) ∗ Owes c O ∗ S') ⊢ Q ⟨⟩) :
    S ⊢ WP c (Prog.lift (.enqueueDma ((A.slice (Rect.unit (s := S16x128x128) offa S1x128x128.size inba) ha).squeeze S128x128 ha')
      (.remote (Dev.tc cd) ((B.slice (Rect.unit (s := S16x128x128) offb S1x128x128.size inbb) hb).squeeze S128x128 hb') (.dma sS) hsc)
      (.dma sD) hsrc hdst hsem)) Q := by
  subst hoffa hoffb hcd
  refine hS.trans ?_
  unfold WP Prog.lift
  unfold slot slotAny Owes gcell at *
  rw [← hsS, ← hsD]
  iintro ⟨#HC, HA, ⟨%fb, HB⟩, HE, ⟨%W, HO⟩, HtS, #HrS, HtD, #HrD, HS⟩
  ihave #HiS := (Ctx_inv X P K c kS) $$ HC
  ihave #HiD := (Ctx_inv X P K cd kD) $$ HC
  ihave HA := (Entails.of_eq (slot_sq A c pa ha ha' q _)) $$ HA
  ihave HB := (Entails.of_eq (slot_sq B cd pb hb hb' _ _)) $$ HB
  unfold gcell
  rw [← hsS, ← hsD]
  have hdS : dS ∈ (Rd X P).duties (Dev.tc c, .dma sS) r := by
    rw [hsS]; exact (Rd_duties X P c kS r).symm ▸ h1
  have hdD : dD ∈ (Rd X P).duties (Dev.tc cd, .dma sD) r := by
    rw [hsD]; exact (Rd_duties X P cd kD r).symm ▸ h2
  iapply (Rounds.wp_send_pointsTo_with 𝒱₀ ER (Rd X P) (Dev.tc c) none (src := sq A pa ha ha') (c' := Dev.tc cd) (dst := sq B pb hb hb') (κ₁ := K (c, kS)) (κ₂ := K (cd, kD))
    (r₁ := r) (r₂ := r) (d₁ := dS) (d₂ := dD) (fd := fb) (fs := (A.access (slotRect pa)).rep Y) (q := q) (F := E) (W := W)
    hdS hdD
    r r N hN (by rw [hsS]; exact (Rd_amount X P c kS r dS).trans hkS) (by rw [hsD]; exact (Rd_amount X P cd kD r dD).trans hkD) O rfl
    (by rw [hsS]; refine BIBase.Entails.trans (Entails.of_eq (slot_sq A c pa ha ha' q _).symm) (hp1.trans (Entails.of_eq (Rd_payload X P c kS r dS).symm)))
    (by
      rw [hsD]
      refine BIBase.Entails.trans ?_ (hp2.trans (Entails.of_eq (Rd_payload X P cd kD r dD).symm))
      exact sep_mono_left (Entails.of_eq (slot_landed A B cd pb pa ha ha' hb hb' fb Y)))
    (by routes)) $$ [HA HB HE HO HtS HtD]
  · isplitr; · iexact HiS
    isplitr; · iexact HiD
    isplitl [HA]; · iexact HA
    isplitl [HB HE]
    · isplitl [HB]
      · iexact HB
      · iexact HE
    isplitl [HO]; · iexact HO
    isplitl [HtS]; · iexact HtS
    isplitr; · iexact HrS
    isplitl [HtD]; · iexact HtD
    iexact HrD
  iintro ⟨Hc, HO⟩
  rw [wp_ret]
  imodintro
  iapply h
  rw [← hsS]
  isplitl [Hc]; · iexact Hc
  isplitl [HO]
  · iexists W; iexact HO
  · iexact HS

/-- A signal to a cell. -/
theorem lift_signal (c' : Dev nD) (O : CellTallies nD τ sig ℕ) (hd : c ≠ c') {cd : Dev nD} (hcd : cd = c') {sm : Sem sig} (hsm : sm = barSem)
    {Q : PUnit → sProp 𝕄}
    (hS : S ⊢ iprop(Ctx X P K ∗ Owes c (O + tallyAt (gcell c' .bar) 0 1) ∗ dutyTok ER (gcell c' .bar) 0 c ∗ slotAny xM c c' ∗ S'))
    (h : iprop(Owes c O ∗ S') ⊢ Q ⟨⟩) :
    S ⊢ WP c (semSignalWord cd sm 1#32) Q := by
  subst hcd hsm
  refine hS.trans ?_
  unfold WP semSignalWord
  unfold Owes at h ⊢
  iintro ⟨#HC, ⟨%W, HO⟩, Ht, HP, HS⟩
  ihave #Hi := (Ctx_inv X P K cd .bar) $$ HC
  ihave #Hr := (Ctx_reached X P K cd .bar) $$ HC
  iapply (Rounds.wp_signal 𝒱₀ ER (Rd X P) (Dev.tc c) none (dst := Dev.tc cd) (sem := barSem) (κ := K (cd, .bar)) (r := 0) (d := c) (k' := 1)
    ((Rd_duties X P cd .bar 0).symm ▸ Finset.mem_erase.mpr ⟨hd, Finset.mem_univ _⟩) (Rd_amount X P cd .bar 0 c) 0 O rfl (W := W)
    (by routes)) $$ [HO Ht HP]
  · isplitr; · iexact Hi
    isplitl [HO]; · iexact HO
    isplitl [Ht]; · iexact Ht
    isplitl [HP]
    · iapply (Entails.of_eq (show (Rd X P).payload (Dev.tc cd, SemLoc.reg barSem) 0 c = slotAny xM c cd from Rd_payload X P cd .bar 0 c).symm)
      iexact HP
    · iexact Hr
  iintro HO
  rw [wp_ret]
  imodintro
  iapply h
  isplitl [HO]
  · iexists W; iexact HO
  · iexact HS

/-- A wait for everything of a round. -/
theorem lift_waitAll (k : Cell) (r n : ℕ) (hr : r < 3) (hn : (duty c k r).card * amt k = n) (O : CellTallies nD τ sig ℕ) (hO : Above (lvk k r) O)
    {w : TpuEff nD τ sig (Elt F) Λ₀ .tc PUnit}
    (hw : ∀ R : PUnit → sProp 𝕄, wpE (defs₀ (F := F)) 𝒱₀ (Dev.tc c) none Set.univ w R = waitSpec (Dev.tc c) Set.univ k.sem n R)
    {Q : PUnit → sProp 𝕄}
    (hS : S ⊢ iprop(Ctx X P K ∗ cred (tallyAt (gcell c k) r n) ∗ Owes c O ∗ atPos ER (gcell c k) r ∅ 0 ∗ S'))
    (h : iprop(Owes c O ∗ atPos ER (gcell c k) (r + 1) ∅ 0 ∗ reached ER (gcell c k) (r + 1) ∗ bigSep (duty c k r) (pay X P c k r) ∗ S') ⊢ Q ⟨⟩) :
    S ⊢ WP c (.op w .ret) Q := by
  refine hS.trans ?_
  unfold WP
  unfold Owes at h ⊢
  iintro ⟨#HC, Hc, ⟨%W, HO⟩, Hat, HS⟩
  ihave #Hi := (Ctx_inv X P K c k) $$ HC
  iapply (Rounds.wp_wait_rest_token 𝒱₀ ER (Rd X P) (Dev.tc c) none (sm := k.sem) (k' := n) (κ := K (c, k)) hw (Set.mem_univ _) r (O := O) (W := W)
    (R := r) (m := 0) (T := ∅) (by rw [Nat.zero_add, ← hn]; exact (Rd_expect X P c k r).symm)) $$ [Hc HO Hat]
  · isplitr; · iexact Hi
    isplitl [Hc]; · iexact Hc
    isplitl [HO]; · iexact HO
    isplitr
    · iapply (Ctx_mayWait X P K c k r hr O hO); iexact HC
    · iexact Hat
  iintro ⟨HO, Hat, Hr, Hpay⟩
  rw [wp_ret]
  imodintro
  iapply h
  isplitl [HO]
  · iexists _; iexact HO
  isplitl [Hat]; · iexact Hat
  isplitl [Hr]; · iexact Hr
  isplitl [Hpay]
  · rw [Finset.sdiff_empty, Rd_duties]
    iapply (Entails.of_eq (bigSep_congr fun d _ => Rd_payload X P c k r d))
    iexact Hpay
  · iexact HS

/-- The waits on a cell that every peer credits: `j` of the fifteen are done. -/
def Wt (c : Dev nD) (k : Cell) (r j : ℕ) : sProp 𝕄 :=
  if j < 15 then
    iprop((∃ T : Finset (Dev nD), ⌜T ⊆ Finset.univ.erase c⌝ ∗ bigSep T (pay X P c k r) ∗ atPos ER (gcell c k) r T (j * N))
      ∗ bigSep (Finset.Ico j 15) fun _ => cred (tallyAt (gcell c k) r N))
  else iprop(bigSep (Finset.univ.erase c) (pay X P c k r) ∗ atPos ER (gcell c k) (r + 1) ∅ 0 ∗ reached ER (gcell c k) (r + 1))

/-- One of the fifteen waits. -/
theorem lift_wait (k : Cell) (r j : ℕ) (hr : r < 3) (hj : j < 15) (hk : amt k = N) (hd : duty c k r = Finset.univ.erase c)
    (O : CellTallies nD τ sig ℕ) (hO : Above (lvk k r) O)
    {w : TpuEff nD τ sig (Elt F) Λ₀ .tc PUnit}
    (hw : ∀ R : PUnit → sProp 𝕄, wpE (defs₀ (F := F)) 𝒱₀ (Dev.tc c) none Set.univ w R = waitSpec (Dev.tc c) Set.univ k.sem N R)
    {Q : PUnit → sProp 𝕄}
    (hS : S ⊢ iprop(Ctx X P K ∗ Wt X P c k r j ∗ Owes c O ∗ S'))
    (h : iprop(Wt X P c k r (j + 1) ∗ Owes c O ∗ S') ⊢ Q ⟨⟩) :
    S ⊢ WP c (.op w .ret) Q := by
  refine hS.trans ?_
  unfold WP
  unfold Owes at h ⊢
  have hex : (Rd X P).expect (gcell c k) r = 15 * N := by rw [Rd_expect, hd, card_erase, hk]
  conv => lhs; unfold Wt
  rw [if_pos hj, bigSep_Ico_succ_bot hj]
  iintro ⟨#HC, ⟨⟨%T, %hT, HT, Hat⟩, Hc, Hcs⟩, ⟨%W, HO⟩, HS⟩
  ihave #Hi := (Ctx_inv X P K c k) $$ HC
  by_cases hj' : j + 1 < 15
  · iapply (Rounds.wp_wait 𝒱₀ ER (Rd X P) (Dev.tc c) none (sm := k.sem) (k' := N) (κ := K (c, k)) hw (Set.mem_univ _)
      (cr := Finsupp.single r N) (O := O) (W := W) {(k.sem, r)} (R := r) (m := j * N) (T := T)
      (by rw [Util.total_single]) (image_single_subset k.sem r N)) $$ [Hc HO Hat]
    · isplitr; · iexact Hi
      isplitl [Hc]; · iexact Hc
      isplitl [HO]; · iexact HO
      isplitr
      · iapply (Ctx_mayWait X P K c k r hr O hO); iexact HC
      · iexact Hat
    iintro %T' ⟨%hT', HO, Hat, Hpay⟩
    rw [wp_ret]
    imodintro
    iapply h
    unfold Wt
    rw [if_pos hj']
    have hT2 : T' ⊆ Finset.univ.erase c := by
      have := hT'.2.1
      rw [show (Rd X P).duties (Dev.tc c, k.sem) r = _ from Rd_duties X P c k r, hd] at this
      exact this
    isplitl [HT Hat Hpay Hcs]
    · isplitl [HT Hat Hpay]
      · iexists T'
        isplitr; · ipureintro; exact hT2
        isplitl [HT Hpay]
        · rw [show bigSep T' (pay X P c k r) = iprop(bigSep T (pay X P c k r) ∗ bigSep (T' \ T) (pay X P c k r)) from
            bigSep_sdiff_split hT'.1]
          isplitl [HT]; · iexact HT
          iapply (Entails.of_eq (bigSep_congr fun d _ => Rd_payload X P c k r d))
          iexact Hpay
        · rw [Nat.succ_mul]; iexact Hat
      · iexact Hcs
    isplitl [HO]
    · iexists _; iexact HO
    · iexact HS
  · obtain rfl : j = 14 := by omega
    iapply (Rounds.wp_wait_rest_token 𝒱₀ ER (Rd X P) (Dev.tc c) none (sm := k.sem) (k' := N) (κ := K (c, k)) hw (Set.mem_univ _) r (O := O) (W := W)
      (R := r) (m := 14 * N) (T := T) (by rw [show (Rd X P).expect (Dev.tc c, k.sem) r = _ from hex]; omega)) $$ [Hc HO Hat]
    · isplitr; · iexact Hi
      isplitl [Hc]; · iexact Hc
      isplitl [HO]; · iexact HO
      isplitr
      · iapply (Ctx_mayWait X P K c k r hr O hO); iexact HC
      · iexact Hat
    iintro ⟨HO, Hat, Hr, Hpay⟩
    rw [wp_ret]
    imodintro
    iapply h
    unfold Wt
    rw [if_neg hj']
    isplitl [HT Hat Hpay Hr]
    · isplitl [HT Hpay]
      · rw [show bigSep (Finset.univ.erase c) (pay X P c k r) = iprop(bigSep T (pay X P c k r) ∗ bigSep (Finset.univ.erase c \ T) (pay X P c k r)) from
            bigSep_sdiff_split hT]
        isplitl [HT]; · iexact HT
        rw [show (Rd X P).duties (Dev.tc c, k.sem) r = _ from (Rd_duties X P c k r).trans hd]
        iapply (Entails.of_eq (bigSep_congr fun d _ => Rd_payload X P c k r d))
        iexact Hpay
      isplitl [Hat]; · iexact Hat
      iexact Hr
    isplitl [HO]
    · iexists _; iexact HO
    · iexact HS

end Remote

end Cert.MlpProof
end
-- ==== Proof.Phases.lean ====
/-
# The phases of a layer

What a device holds between two operations, for each phase of a layer: the activations' sends, the device's own
partial product, the peers' partial products and their sends, and the closing waits. Each operation of the kernel is
one step from a phase to a phase, proved once for every layer and every peer.
-/
module

public import proofs.«01_k».proof.Proof.Steps

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Contents -/

/-- A device's operands. -/
structure Ins (F : FTy → Type) where
  x : Vec F S128x128 .f32
  w0 : Vec F S128x256 .f32
  o0 : Vec F S256x128 .f32
  w1 : Vec F S128x256 .f32
  o1 : Vec F S256x128 .f32
  w2 : Vec F S128x256 .f32
  o2 : Vec F S256x128 .f32

def Ins.win (A : Ins F) : ℕ → Vec F S128x256 .f32 | 0 => A.w0 | 1 => A.w1 | _ => A.w2
def Ins.wout (A : Ins F) : ℕ → Vec F S256x128 .f32 | 0 => A.o0 | 1 => A.o1 | _ => A.o2

variable (A : Dev nD → Ins F)

/-- Device `s`'s activations before layer `ℓ`. -/
def Xc : ℕ → Dev nD → Blk F
  | 0, s => k0_pay1 (A s).x
  | ℓ + 1, s => k0_pay24 (k0_pay23 (glue fun d => k0_pay4 (Xc ℓ s) ((A d).win ℓ) ((A d).wout ℓ)))

/-- The partial product of layer `ℓ` that device `s` computes for device `p`. -/
def Pc (ℓ : ℕ) (s p : Dev nD) : Blk F := k0_pay4 (Xc A ℓ p) ((A s).win ℓ) ((A s).wout ℓ)

/-- The sum of the partial products of layer `ℓ` for device `p`. -/
def Red (ℓ : ℕ) (p : Dev nD) : Vec F S128x128 .f32 := k0_pay23 (glue fun d => Pc A ℓ d p)

/-! ## The staged operands -/

/-- A whole staging buffer of device `c`. -/
abbrev stg (c : Dev nD) (b : Ref sig .tc) (V : b.ty.Contents (Elt F)) : sProp 𝕄 := iprop(((Dev.tc c : Thread nD τ).loc b) ↦{fullShare} V)

def Stg (c : Dev nD) (A : Ins F) : sProp 𝕄 :=
  iprop(stg c cc0_stg0_0 A.x ∗ stg c cc0_stg1_0 A.w0 ∗ stg c cc0_stg2_0 A.o0 ∗ stg c cc0_stg3_0 A.w1 ∗ stg c cc0_stg4_0 A.o1
    ∗ stg c cc0_stg5_0 A.w2 ∗ stg c cc0_stg6_0 A.o2)

def Out (c : Dev nD) : sProp 𝕄 := iprop(∃ V, stg c cc0_stg7_0 V)

/-! ## What a device holds -/

section Held

variable (c : Dev nD)

def TokA (ℓ i : ℕ) : sProp 𝕄 := iprop(dutyTok ER (gcell c .ags) ℓ (up c i) ∗ dutyTok ER (gcell (up c i) (.agr c)) ℓ c)
def TokM (ℓ i : ℕ) : sProp 𝕄 :=
  iprop(dutyTok ER (gcell c .rss) ℓ (dn c i) ∗ dutyTok ER (gcell (dn c i) .rsr) ℓ c ∗ cred (tallyAt (gcell c (.agr (dn c i))) ℓ N))
def TokW (ℓ : ℕ) : sProp 𝕄 := bigSep (Finset.Ico 0 15) fun _ => cred (tallyAt (gcell c .rsr) ℓ N)
def Tok (ℓ : ℕ) : sProp 𝕄 := iprop(bigSep (Finset.Ico 0 15) (TokA c ℓ) ∗ bigSep (Finset.Ico 0 15) (TokM c ℓ) ∗ TokW c ℓ)
/-- The tokens and credits of the layers from `ℓ` on. -/
def Lat (ℓ : ℕ) : sProp 𝕄 := bigSep (Finset.Ico ℓ 3) (Tok c)

def R0 : sProp 𝕄 := iprop(atPos ER (gcell c .bar) 1 ∅ 0 ∗ atPos ER (gcell c (.agr c)) 0 ∅ 0)

/-- What one send of the activations needs besides them. -/
def agTodo (ℓ i : ℕ) : sProp 𝕄 :=
  iprop(slotAny xM (up c i) c ∗ slotAny rM c (up c i) ∗ TokA c ℓ i ∗ reached ER (gcell (up c i) (.agr c)) ℓ)
/-- What one peer's partial product needs. -/
def rsTodo (ℓ i : ℕ) : sProp 𝕄 := iprop(slotAny pM c (dn c i) ∗ TokM c ℓ i ∗ atPos ER (gcell c (.agr (dn c i))) ℓ ∅ 0)
def keep (ℓ i : ℕ) : sProp 𝕄 := if ℓ < 2 then iprop(emp) else slotAny xM c (dn c i)
/-- What is left of it. -/
def rsDone (ℓ i : ℕ) : sProp 𝕄 := iprop(keep c ℓ i ∗ atPos ER (gcell c (.agr (dn c i))) (ℓ + 1) ∅ 0)

def sent (k : Cell) (ℓ j : ℕ) : sProp 𝕄 := bigSep (Finset.range j) fun _ => cred (tallyAt (gcell c k) ℓ N)

/-- What a layer's sends leave alone. -/
def Base (ℓ : ℕ) : sProp 𝕄 :=
  iprop(TokW c ℓ ∗ atPos ER (gcell c .rsr) ℓ ∅ 0 ∗ atPos ER (gcell c .rss) ℓ ∅ 0 ∗ atPos ER (gcell c .ags) ℓ ∅ 0 ∗ Lat c (ℓ + 1) ∗ R0 c)

/-- Before the barrier, the signals to the peers below `k` given. -/
def PhBar (k : ℕ) : sProp 𝕄 :=
  iprop((bigSep (peers c k) fun p => iprop(dutyTok ER (gcell p .bar) 0 c ∗ slotAny xM c p))
    ∗ slotAny xM c c ∗ (bigSep Finset.univ fun p => slotAny pM c p) ∗ (bigSep Finset.univ fun p => slotAny rM c p)
    ∗ cred (tallyAt (gcell c .bar) 0 15) ∗ atPos ER (gcell c .bar) 0 ∅ 0 ∗ atPos ER (gcell c .ags) 0 ∅ 0 ∗ atPos ER (gcell c .rss) 0 ∅ 0
    ∗ atPos ER (gcell c .rsr) 0 ∅ 0 ∗ (bigSep Finset.univ fun p => atPos ER (gcell c (.agr p)) 0 ∅ 0)
    ∗ Lat c 0 ∗ Owes c (barO c k + later c 0))

/-- A layer's start. -/
def LS (ℓ : ℕ) : sProp 𝕄 :=
  iprop(slotAny xM c c ∗ slotAny pM c c ∗ slotAny rM c c ∗ bigSep (Finset.Ico 0 15) (agTodo c ℓ) ∗ bigSep (Finset.Ico 0 15) (rsTodo c ℓ)
    ∗ reached ER (gcell c .ags) ℓ ∗ reached ER (gcell c .rsr) ℓ ∗ reached ER (gcell c .rss) ℓ ∗ Base c ℓ ∗ Owes c (later c ℓ))

/-- `j` of the activations' sends done. -/
def PhA (ℓ j : ℕ) : sProp 𝕄 :=
  iprop((bigSep (Finset.Ico j 15) fun i => iprop(agTodo c ℓ i ∗ slot xM c c (shr (up c i)) (Xc A ℓ c)))
    ∗ sent c .ags ℓ j ∗ slot xM c c (shr c) (Xc A ℓ c) ∗ slotAny pM c c ∗ slotAny rM c c ∗ bigSep (Finset.Ico 0 15) (rsTodo c ℓ)
    ∗ reached ER (gcell c .ags) ℓ ∗ reached ER (gcell c .rsr) ℓ ∗ reached ER (gcell c .rss) ℓ ∗ Base c ℓ
    ∗ Owes c (agO c ℓ j + (rsO c ℓ 0 + later c (ℓ + 1))))

/-- The device's own partial product; `Zp` and `Zr` are its own slots of the two buffers. -/
def PhM (ℓ : ℕ) (Zp Zr : sProp 𝕄) : sProp 𝕄 :=
  iprop(Zp ∗ Zr ∗ slot xM c c (shr c) (Xc A ℓ c) ∗ bigSep (Finset.Ico 0 15) (rsTodo c ℓ) ∗ reached ER (gcell c .rss) ℓ
    ∗ sent c .ags ℓ 15 ∗ Base c ℓ ∗ Owes c (rsO c ℓ 0 + later c (ℓ + 1)))

def Own (ℓ : ℕ) : sProp 𝕄 :=
  iprop(slot xM c c (shr c) (Xc A ℓ c) ∗ slot pM c c fullShare (Pc A ℓ c c) ∗ slot rM c c fullShare (Pc A ℓ c c))

/-- `j` of the peers' partial products sent. -/
def PhB (ℓ j : ℕ) : sProp 𝕄 :=
  iprop(bigSep (Finset.Ico j 15) (rsTodo c ℓ) ∗ bigSep (Finset.range j) (rsDone c ℓ) ∗ sent c .rss ℓ j ∗ Own A c ℓ ∗ reached ER (gcell c .rss) ℓ
    ∗ sent c .ags ℓ 15 ∗ Base c ℓ ∗ Owes c (rsO c ℓ j + later c (ℓ + 1)))

/-- Between the arrival of a peer's activations and the send of its partial product; `Z` is the slot it is computed in. -/
def PhBw (ℓ j : ℕ) (Z : sProp 𝕄) : sProp 𝕄 :=
  iprop(Z ∗ slot xM c (dn c j) fullShare (Xc A ℓ (dn c j)) ∗ slotAny rM (dn c j) c ∗ reached ER (gcell (dn c j) .rsr) ℓ
    ∗ dutyTok ER (gcell c .rss) ℓ (dn c j) ∗ dutyTok ER (gcell (dn c j) .rsr) ℓ c
    ∗ atPos ER (gcell c (.agr (dn c j))) (ℓ + 1) ∅ 0 ∗ reached ER (gcell c (.agr (dn c j))) (ℓ + 1)
    ∗ bigSep (Finset.Ico (j + 1) 15) (rsTodo c ℓ) ∗ bigSep (Finset.range j) (rsDone c ℓ) ∗ sent c .rss ℓ j ∗ Own A c ℓ ∗ reached ER (gcell c .rss) ℓ
    ∗ sent c .ags ℓ 15 ∗ Base c ℓ ∗ Owes c (rsO c ℓ j + later c (ℓ + 1)))

/-- The closing waits of a layer: how many of each cell's fifteen are done. -/
def PhW (ℓ a b d : ℕ) : sProp 𝕄 :=
  iprop(Wt (Xc A) (Pc A) c .rsr ℓ a ∗ Wt (Xc A) (Pc A) c .rss ℓ b ∗ Wt (Xc A) (Pc A) c .ags ℓ d ∗ Own A c ℓ
    ∗ bigSep (Finset.Ico 0 15) (rsDone c ℓ) ∗ Lat c (ℓ + 1) ∗ R0 c ∗ Owes c (later c (ℓ + 1)))

/-- After the last wait. -/
def Fin3 : sProp 𝕄 :=
  iprop((bigSep Finset.univ fun p => slotAny xM c p) ∗ (bigSep Finset.univ fun p => slotAny pM c p) ∗ (bigSep Finset.univ fun p => slotAny rM c p)
    ∗ atPos ER (gcell c .bar) 1 ∅ 0 ∗ atPos ER (gcell c .ags) 3 ∅ 0 ∗ atPos ER (gcell c .rss) 3 ∅ 0 ∗ atPos ER (gcell c .rsr) 3 ∅ 0
    ∗ atPos ER (gcell c (.agr c)) 0 ∅ 0 ∗ (bigSep (Finset.univ.erase c) fun p => atPos ER (gcell c (.agr p)) 3 ∅ 0) ∗ Owes c 0)

/-- A phase with what every phase holds. -/
def St (K : Dev nD × Cell → ℕ) (ph : sProp 𝕄) : sProp 𝕄 := iprop(Ctx (Xc A) (Pc A) K ∗ Stg c (A c) ∗ Out c ∗ ph)

end Held

end Cert.MlpProof
end
-- ==== Proof.PhaseSteps.lean ====
/-
# The steps between the phases

Each operation of the kernel, at any layer and any peer, as a step from a phase to a phase.
-/
module

public import proofs.«01_k».proof.Proof.Phases

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Dev nD → Ins F) (K : Dev nD × Cell → ℕ) {c : Dev nD} {α : Type}

/-- A resource taken out of a state and put back changed. -/
theorem wand_use {R B G : sProp (MT nD τ sig ℕ (Elt F) ℕ UU ℕ)} (h : B ⊢ G) : iprop(R ∗ (R -∗ B)) ⊢ G := by
  refine BIBase.Entails.trans ?_ h
  iintro ⟨HR, H⟩
  iapply H
  iexact HR

theorem wand_use2 {R R' B G : sProp (MT nD τ sig ℕ (Elt F) ℕ UU ℕ)} (h : B ⊢ G) : iprop(R ∗ R' ∗ (R -∗ R' -∗ B)) ⊢ G := by
  refine BIBase.Entails.trans ?_ h
  iintro ⟨HR, HR', H⟩
  iapply H $$ HR
  iexact HR'

/-! ## The staged operands -/

section Staged

variable {ph : sProp (MT nD τ sig ℕ (Elt F) ℕ UU ℕ)}

theorem hz2 : (![0, 0] : Fin 2 → ℕ) = fun _ => 0 := funext fun a => by fin_cases a <;> rfl

/-- A load of a staged operand: `hget` takes it out of the staged operands. -/
theorem lift_stg {s : Shape} {e : EltTy} (m : Memref sig .tc .vmem s e) (V : Buf (Elt F) (m.view.loc (Dev.tc c : Thread nD τ))) {r : Rect s}
    {hl} {v : r.shape.Idx → Elt F e} (hv : m.view.readAt (Elt F) r.toLoadRect V = v) {Q : (r.shape.Idx → Elt F e) → sProp 𝕄}
    (hget : Stg c (A c) ⊢ iprop((m.view.loc (Dev.tc c : Thread nD τ) ↦{fullShare} V)
      ∗ ((m.view.loc (Dev.tc c : Thread nD τ) ↦{fullShare} V) -∗ Stg c (A c)))) (h : St A c K ph ⊢ Q v) :
    St A c K ph ⊢ WP c (Prog.lift (.load m r.toLoadRect hl)) Q := by
  unfold WP Prog.lift
  refine BIBase.Entails.trans (Q := iprop((m.view.loc (Dev.tc c : Thread nD τ) ↦{fullShare} V)
    ∗ ((m.view.loc (Dev.tc c : Thread nD τ) ↦{fullShare} V) -∗ St A c K ph))) ?_ ?_
  · unfold St
    iintro ⟨HC, HS, HO, HP⟩
    ihave HS := hget $$ HS
    icases HS with ⟨H, HS⟩
    isplitl [H]; · iexact H
    iintro H
    isplitl [HC]; · iexact HC
    isplitl [HS H]
    · iapply HS; iexact H
    isplitl [HO] <;> iassumption
  iintro ⟨H, HS⟩
  iapply (wp_load (defs := defs₀ (F := F)) 𝒱₀ (Dev.tc c) none Set.univ (m := m) (hl := hl) (Finset.subset_univ _)) $$ H
  iintro H
  rw [hv, wp_ret]
  imodintro
  iapply h
  iapply HS
  iexact H

theorem ld_x {inb hl} {Q : Vec F S128x128 .f32 → sProp 𝕄} (h : St A c K ph ⊢ Q (A c).x) :
    St A c K ph ⊢ WP c (Prog.lift (.load (Memref.whole cc0_stg0_0 : Memref sig .tc .vmem S128x128 .f32) (Rect.unit (s := S128x128) ![0, 0] S128x128.size inb).toLoadRect hl)) Q :=
  lift_stg A K (Memref.whole cc0_stg0_0) (A c).x (Memref.readAt_unit_zero (Elt F) cc0_stg0_0 hz2 inb _)
    (by unfold Stg; iintro ⟨H0, H1, H2, H3, H4, H5, H6⟩; iframe H0; iintro H0; iframe) h
theorem ld_w0 {inb hl} {Q : Vec F S128x256 .f32 → sProp 𝕄} (h : St A c K ph ⊢ Q (A c).w0) :
    St A c K ph ⊢ WP c (Prog.lift (.load (Memref.whole cc0_stg1_0 : Memref sig .tc .vmem S128x256 .f32) (Rect.unit (s := S128x256) ![0, 0] S128x256.size inb).toLoadRect hl)) Q :=
  lift_stg A K (Memref.whole cc0_stg1_0) (A c).w0 (Memref.readAt_unit_zero (Elt F) cc0_stg1_0 hz2 inb _)
    (by unfold Stg; iintro ⟨H0, H1, H2, H3, H4, H5, H6⟩; iframe H1; iintro H1; iframe) h
theorem ld_o0 {inb hl} {Q : Vec F S256x128 .f32 → sProp 𝕄} (h : St A c K ph ⊢ Q (A c).o0) :
    St A c K ph ⊢ WP c (Prog.lift (.load (Memref.whole cc0_stg2_0 : Memref sig .tc .vmem S256x128 .f32) (Rect.unit (s := S256x128) ![0, 0] S256x128.size inb).toLoadRect hl)) Q :=
  lift_stg A K (Memref.whole cc0_stg2_0) (A c).o0 (Memref.readAt_unit_zero (Elt F) cc0_stg2_0 hz2 inb _)
    (by unfold Stg; iintro ⟨H0, H1, H2, H3, H4, H5, H6⟩; iframe H2; iintro H2; iframe) h
theorem ld_w1 {inb hl} {Q : Vec F S128x256 .f32 → sProp 𝕄} (h : St A c K ph ⊢ Q (A c).w1) :
    St A c K ph ⊢ WP c (Prog.lift (.load (Memref.whole cc0_stg3_0 : Memref sig .tc .vmem S128x256 .f32) (Rect.unit (s := S128x256) ![0, 0] S128x256.size inb).toLoadRect hl)) Q :=
  lift_stg A K (Memref.whole cc0_stg3_0) (A c).w1 (Memref.readAt_unit_zero (Elt F) cc0_stg3_0 hz2 inb _)
    (by unfold Stg; iintro ⟨H0, H1, H2, H3, H4, H5, H6⟩; iframe H3; iintro H3; iframe) h
theorem ld_o1 {inb hl} {Q : Vec F S256x128 .f32 → sProp 𝕄} (h : St A c K ph ⊢ Q (A c).o1) :
    St A c K ph ⊢ WP c (Prog.lift (.load (Memref.whole cc0_stg4_0 : Memref sig .tc .vmem S256x128 .f32) (Rect.unit (s := S256x128) ![0, 0] S256x128.size inb).toLoadRect hl)) Q :=
  lift_stg A K (Memref.whole cc0_stg4_0) (A c).o1 (Memref.readAt_unit_zero (Elt F) cc0_stg4_0 hz2 inb _)
    (by unfold Stg; iintro ⟨H0, H1, H2, H3, H4, H5, H6⟩; iframe H4; iintro H4; iframe) h
theorem ld_w2 {inb hl} {Q : Vec F S128x256 .f32 → sProp 𝕄} (h : St A c K ph ⊢ Q (A c).w2) :
    St A c K ph ⊢ WP c (Prog.lift (.load (Memref.whole cc0_stg5_0 : Memref sig .tc .vmem S128x256 .f32) (Rect.unit (s := S128x256) ![0, 0] S128x256.size inb).toLoadRect hl)) Q :=
  lift_stg A K (Memref.whole cc0_stg5_0) (A c).w2 (Memref.readAt_unit_zero (Elt F) cc0_stg5_0 hz2 inb _)
    (by unfold Stg; iintro ⟨H0, H1, H2, H3, H4, H5, H6⟩; iframe H5; iintro H5; iframe) h
theorem ld_o2 {inb hl} {Q : Vec F S256x128 .f32 → sProp 𝕄} (h : St A c K ph ⊢ Q (A c).o2) :
    St A c K ph ⊢ WP c (Prog.lift (.load (Memref.whole cc0_stg6_0 : Memref sig .tc .vmem S256x128 .f32) (Rect.unit (s := S256x128) ![0, 0] S256x128.size inb).toLoadRect hl)) Q :=
  lift_stg A K (Memref.whole cc0_stg6_0) (A c).o2 (Memref.readAt_unit_zero (Elt F) cc0_stg6_0 hz2 inb _)
    (by unfold Stg; iintro ⟨H0, H1, H2, H3, H4, H5, H6⟩; iframe H6; iintro H6; iframe) h

end Staged

/-! ## Families over the peers -/

section Families

variable (c)

theorem ins_eq {I : Type} [DecidableEq I] {s : Finset I} {i : I} (h : i ∉ s) (Φ : I → sProp 𝕄) : bigSep (insert i s) Φ = iprop(Φ i ∗ bigSep s Φ) :=
  bigSep_insert h
theorem era_eq (Φ : Dev nD → sProp 𝕄) : bigSep Finset.univ Φ = iprop(Φ c ∗ bigSep (Finset.univ.erase c) Φ) := bigSep_erase (Finset.mem_univ c)

theorem agTodo_eq (ℓ : ℕ) : bigSep (Finset.Ico 0 15) (agTodo (F := F) c ℓ)
    = iprop(bigSep (Finset.univ.erase c) (fun d => slotAny (F := F) xM d c) ∗ bigSep (Finset.univ.erase c) (fun d => slotAny (F := F) rM c d)
      ∗ bigSep (Finset.Ico 0 15) (TokA c ℓ) ∗ bigSep (Finset.univ.erase c) (fun d => reached ER (gcell d (.agr c)) ℓ)) := by
  unfold agTodo
  rw [bigSep_sep', bigSep_sep', bigSep_sep', bigSep_up c (fun d => slotAny (F := F) xM d c), bigSep_up c (fun d => slotAny (F := F) rM c d),
    bigSep_up c (fun d => (reached ER (gcell d (.agr c)) ℓ : sProp 𝕄))]

theorem rsTodo_eq (ℓ : ℕ) : bigSep (Finset.Ico 0 15) (rsTodo (F := F) c ℓ)
    = iprop(bigSep (Finset.univ.erase c) (fun d => slotAny (F := F) pM c d) ∗ bigSep (Finset.Ico 0 15) (TokM c ℓ)
      ∗ bigSep (Finset.univ.erase c) (fun d => atPos ER (gcell c (.agr d)) ℓ ∅ 0)) := by
  unfold rsTodo
  rw [bigSep_sep', bigSep_sep', bigSep_dn c (fun d => slotAny (F := F) pM c d),
    bigSep_dn c (fun d => (atPos ER (gcell c (.agr d)) ℓ ∅ 0 : sProp 𝕄))]

theorem agTodo_def (ℓ i : ℕ) : agTodo (F := F) c ℓ i = iprop(slotAny xM (up c i) c ∗ slotAny rM c (up c i)
    ∗ (dutyTok ER (gcell c .ags) ℓ (up c i) ∗ dutyTok ER (gcell (up c i) (.agr c)) ℓ c) ∗ reached ER (gcell (up c i) (.agr c)) ℓ) := rfl
theorem rsTodo_def (ℓ i : ℕ) : rsTodo (F := F) c ℓ i = iprop(slotAny pM c (dn c i) ∗ (dutyTok ER (gcell c .rss) ℓ (dn c i)
    ∗ dutyTok ER (gcell (dn c i) .rsr) ℓ c ∗ cred (tallyAt (gcell c (.agr (dn c i))) ℓ N)) ∗ atPos ER (gcell c (.agr (dn c i))) ℓ ∅ 0) := rfl

/-- A slot dealt into the device's own share and one share for each peer. -/
theorem deal_peers (Y : Blk F) : (slot xM c c fullShare Y : sProp 𝕄)
    = iprop(slot xM c c (shr c) Y ∗ bigSep (Finset.Ico 0 15) fun i => slot xM c c (shr (up c i)) Y) := by
  rw [slot_deal, era_eq c, bigSep_up c (fun d => slot xM c c (shr d) Y)]

theorem Lat_step {ℓ : ℕ} (h : ℓ < 3) : Lat (F := F) c ℓ
    = iprop((bigSep (Finset.Ico 0 15) (TokA c ℓ) ∗ bigSep (Finset.Ico 0 15) (TokM c ℓ) ∗ TokW c ℓ) ∗ Lat c (ℓ + 1)) := by
  unfold Lat
  rw [bigSep_Ico_succ_bot h]
  rfl

theorem up_mem {j : ℕ} (h : j < 15) : up c j ∈ (Finset.univ.erase c : Finset (Dev nD)) := Finset.mem_erase.mpr ⟨up_ne c h, Finset.mem_univ _⟩
theorem dn_mem {j : ℕ} (h : j < 15) : dn c j ∈ (Finset.univ.erase c : Finset (Dev nD)) := Finset.mem_erase.mpr ⟨dn_ne c h, Finset.mem_univ _⟩
theorem mem_erase_of {d e : Dev nD} (h : d ≠ e) : e ∈ (Finset.univ.erase d : Finset (Dev nD)) := Finset.mem_erase.mpr ⟨h.symm, Finset.mem_univ _⟩
theorem duty_agr {p : Dev nD} {ℓ : ℕ} (hℓ : ℓ < 3) (h : p ≠ c) : duty c (.agr p) ℓ = {p} := if_pos ⟨hℓ, h⟩
theorem duty_ags {ℓ : ℕ} (hℓ : ℓ < 3) : duty c .ags ℓ = Finset.univ.erase c := if_pos hℓ
theorem duty_rss {ℓ : ℕ} (hℓ : ℓ < 3) : duty c .rss ℓ = Finset.univ.erase c := if_pos hℓ
theorem duty_rsr {ℓ : ℕ} (hℓ : ℓ < 3) : duty c .rsr ℓ = Finset.univ.erase c := if_pos hℓ
theorem duty_bar : duty c .bar 0 = Finset.univ.erase c := by
  unfold duty
  exact if_pos rfl

end Families

/-! ## The barrier -/

section Phases

variable {Q : PUnit → sProp (MT nD τ sig ℕ (Elt F) ℕ UU ℕ)}

theorem bar_signal (p : Dev nD) (hp : p ≠ c) {cd : Dev nD} (hcd : cd = p) {sm : Sem sig} (hsm : sm = barSem)
    (h : St A c K (PhBar c (p.val + 1)) ⊢ Q ⟨⟩) : St A c K (PhBar c p.val) ⊢ WP c (semSignalWord cd sm 1#32) Q := by
  refine lift_signal (Xc A) (Pc A) K (S' := iprop(Owes c (barO c (p.val + 1) + later c 0) -∗ St A c K (PhBar c (p.val + 1))))
    p (barO c (p.val + 1) + later c 0) hp.symm hcd hsm ?_ (wand_use h)
  unfold St PhBar
  rw [peers_step c p hp, ins_eq (peers_notMem c p),
    show barO c p.val = tallyAt (gcell p .bar) 0 1 + barO c (p.val + 1) by
      unfold barO; rw [peers_step c p hp, Finset.sum_insert (peers_notMem c p)],
    show tallyAt (gcell p .bar) 0 1 + barO c (p.val + 1) + later c 0 = barO c (p.val + 1) + later c 0 + tallyAt (gcell p .bar) 0 1 by
      rw [add_comm (tallyAt (gcell p .bar) 0 1), add_assoc, add_comm (tallyAt (gcell p .bar) 0 1), ← add_assoc]]
  iintro ⟨#HC, HS, HO, ⟨⟨Ht, Hx⟩, Hps⟩, H1, H2, H3, H4, H5, H6, H7, H8, H9, H10, HW⟩
  iframe HC HW Ht Hx
  iintro HW
  iframe

/-- One branch of the barrier: a device signals every peer and skips itself. -/
theorem bar_step (p : Dev nD) {b : Prop} [Decidable b] (hb : b ↔ p ≠ c) {n : b → Dev nD} (hn : ∀ h, n h = p) {sm : Sem sig} (hsm : sm = barSem)
    {rest : Pg F α} {R : α → sProp 𝕄} (h : St A c K (PhBar c (p.val + 1)) ⊢ WP c rest R) :
    St A c K (PhBar c p.val) ⊢ WP c (if h : b then (semSignalWord (n h) sm 1#32 >>= fun _ => rest) else rest) R := by
  by_cases hb' : b
  · rw [dif_pos hb']
    exact WP_bind (bar_signal A K p (hb.mp hb') (hn hb') hsm h)
  · rw [dif_neg hb']
    have hp : p = c := by_contra fun e => hb' (hb.mpr e)
    subst hp
    refine BIBase.Entails.trans (Entails.of_eq ?_) h
    unfold PhBar barO
    rw [← peers_skip p]

theorem bar_wait {sm : Sem sig} (hsm : sm = barSem) (h : St A c K (LS c 0) ⊢ Q ⟨⟩) :
    St A c K (PhBar c 16) ⊢ WP c (semWaitWord sm 15#32) Q := by
  subst hsm
  refine lift_waitAll (Xc A) (Pc A) K (c := c) .bar 0 15 (by decide) (by rw [duty_bar, card_erase]; rfl) (later c 0) (above_later c (by decide))
    (fun R => wpE_semWait_eq 𝒱₀ (Dev.tc c : Thread nD τ) none Set.univ R)
    (S' := iprop(Owes c (later c 0) -∗ bigSep (Finset.univ.erase c) (fun d => slotAny xM d c) -∗ atPos ER (gcell c .bar) 1 ∅ 0 -∗ St A c K (LS c 0))) ?_ ?_
  · have hr : Ctx (Xc A) (Pc A) K ⊢ bigSep (Finset.univ.erase c) (fun d => reached ER (gcell d (.agr c)) 0) :=
      bigSep_intro_persistent fun d _ => Ctx_reached (Xc A) (Pc A) K d (.agr c)
    unfold St PhBar LS Base R0
    rw [show barO c 16 = 0 by unfold barO; rw [peers_end, Finset.sum_empty], zero_add, Lat_step c (by decide), agTodo_eq, rsTodo_eq,
      era_eq c (fun p => slotAny pM c p), era_eq c (fun p => slotAny rM c p), era_eq c (fun p => atPos ER (gcell c (.agr p)) 0 ∅ 0)]
    iintro ⟨#HC, HS, HO, -, H1, ⟨H2, H3⟩, ⟨H4, H5⟩, H6, H7, H8, H9, H10, ⟨H11, H12⟩, ⟨⟨H13, H14, H15⟩, H16⟩, HW⟩
    iframe HC H6 HW H7
    iintro HW Hp Ha
    ihave #Hr := hr $$ HC
    ihave #H17 := (Ctx_reached (Xc A) (Pc A) K c .ags) $$ HC
    ihave #H18 := (Ctx_reached (Xc A) (Pc A) K c .rsr) $$ HC
    ihave #H19 := (Ctx_reached (Xc A) (Pc A) K c .rss) $$ HC
    iframe
    iframe Hr H17 H18 H19
  · refine BIBase.Entails.trans ?_ h
    iintro ⟨HO, Ha, -, Hp, H⟩
    ihave Hp := (Entails.of_eq (congrArg (fun s => bigSep s (pay (Xc A) (Pc A) c .bar 0)) (duty_bar c))) $$ Hp
    iapply H $$ HO [Hp]
    · iexact Hp
    · iexact Ha

/-! ## A layer's start and the activations' sends -/

theorem ls_load {ℓ : ℕ} {off : Fin 3 → ℕ} (hoff : off = ![c.val, 0, 0]) {inb hl} {Q : Blk F → sProp 𝕄} (h : ∀ v, St A c K (LS c ℓ) ⊢ Q v) :
    St A c K (LS c ℓ) ⊢ WP c (Prog.lift (.load xM (Rect.unit (s := S16x128x128) off S1x128x128.size inb).toLoadRect hl)) Q := by
  refine lift_load_any (S' := iprop(slotAny xM c c -∗ St A c K (LS c ℓ))) xM c hoff ?_ fun v => wand_use (h v)
  unfold St LS
  iintro ⟨#HC, HS, HO, H, Hr⟩
  iframe H
  iintro H
  iframe
  iexact HC

theorem ls_store {ℓ : ℕ} (hℓ : ℓ < 3) {off : Fin 3 → ℕ} (hoff : off = ![c.val, 0, 0]) {inb} {w : Blk F} (hw : w = Xc A ℓ c) {hx hm}
    (h : St A c K (PhA A c ℓ 0) ⊢ Q ⟨⟩) :
    St A c K (LS c ℓ) ⊢ WP c (Prog.lift (.store xM (Rect.unit (s := S16x128x128) off S1x128x128.size inb) w Finset.univ hx hm)) Q := by
  subst hw
  refine lift_store (S' := iprop(slot xM c c fullShare (Xc A ℓ c) -∗ St A c K (PhA A c ℓ 0))) xM c hoff ?_ (wand_use h)
  unfold St LS PhA sent
  rw [bigSep_sep', deal_peers c, later_step c hℓ, Finset.range_zero, bigSep_empty, add_assoc]
  iintro ⟨#HC, HS, HO, H1, H2, H3, H4, H5, H6, H7, H8, H9, H10⟩
  iframe H1
  iintro ⟨H11, H12⟩
  iframe
  isplitl []
  · iexact HC
  · iempintro

/-- A send of the activations to the `j + 1`st peer up the ring. -/
theorem ag_send {ℓ j : ℕ} (hℓ : ℓ < 3) (hj : j < 15) {cd : Dev nD} (hcd : cd = up c j) {sS sD : DmaSem sig} (hsS : SemLoc.dma sS = Cell.ags.sem)
    (hsD : SemLoc.dma sD = (Cell.agr c).sem) {offa offb : Fin 3 → ℕ} (hoffa : offa = ![c.val, 0, 0]) (hoffb : offb = ![c.val, 0, 0])
    {inba inbb} {ha ha' hb hb' hsc hsrc hdst hsem} (h : St A c K (PhA A c ℓ (j + 1)) ⊢ Q ⟨⟩) :
    St A c K (PhA A c ℓ j) ⊢ WP c (Prog.lift (.enqueueDma ((xM.slice (Rect.unit (s := S16x128x128) offa S1x128x128.size inba) ha).squeeze S128x128 ha')
      (.remote (Dev.tc cd) ((xM.slice (Rect.unit (s := S16x128x128) offb S1x128x128.size inbb) hb).squeeze S128x128 hb') (.dma sS) hsc)
      (.dma sD) hsrc hdst hsem)) Q := by
  refine lift_send (Xc A) (Pc A) K (S' := iprop(cred (tallyAt (gcell c .ags) ℓ N)
      -∗ Owes c (agO c ℓ (j + 1) + (rsO c ℓ 0 + later c (ℓ + 1))) -∗ St A c K (PhA A c ℓ (j + 1)))) xM xM rfl
    c c (up c j) .ags (.agr c) (shr (up c j)) (Xc A ℓ c) ℓ (up c j) c iprop(slotAny rM c (up c j) ∗ reached ER (gcell c .rsr) ℓ)
    (agO c ℓ (j + 1) + (rsO c ℓ 0 + later c (ℓ + 1))) rfl rfl
    (by rw [duty_ags c hℓ]; exact up_mem c hj) (by rw [duty_agr _ hℓ (up_ne c hj).symm]; exact Finset.mem_singleton_self c)
    BIBase.Entails.refl BIBase.Entails.refl hcd hsS hsD hoffa hoffb ?_ (wand_use2 h)
  unfold St PhA sent
  rw [bigSep_Ico_succ_bot hj, agO_step c ℓ hj, bigSep_range_succ, agTodo_def c ℓ j]
  rw [show agT c ℓ j + agO c ℓ (j + 1) + (rsO c ℓ 0 + later c (ℓ + 1))
      = agO c ℓ (j + 1) + (rsO c ℓ 0 + later c (ℓ + 1)) + tallyAt (gcell (up c j) (.agr c)) ℓ N by
    rw [add_comm (agT c ℓ j), add_assoc, add_comm (agT c ℓ j), ← add_assoc]; rfl]
  iintro ⟨#HC, HS, HO, ⟨⟨⟨H1, H2, ⟨H3, H4⟩, H5⟩, H6⟩, H7⟩, H8, H9, H10, H11, H12, #H13, #H14, H15, H16, HW⟩
  iframe HC H1 H2 H3 H4 H5 H6 HW H13 H14
  iintro Hc HW
  iframe

end Phases

end Cert.MlpProof
end
-- ==== Proof.LaunchGhost.lean ====
/-
# The start: cells, tokens and credits

What the launch deals each device, and how it makes up the state the body starts from.
-/
module

public import proofs.«01_k».proof.Proof.PhaseSteps
public import Idealize.ShloMosaic.Lib.Pipeline.Launch
public import Idealize.ShloMosaic.Lib.Pipeline.Kit

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Dev nD → Ins F)

/-- An entailment, as the separating products over sets take it. -/
theorem ent {S T : sProp (MT nD τ sig ℕ (Elt F) ℕ UU ℕ)} (h : S ⊢ T) : Idealize.SL.BI.Entails S T := h

/-! ## The cells and the tokens -/

def cellAt (p : Dev nD × Cell) : GSem nD τ sig := gcell p.1 p.2

theorem cellAt_inj : Function.Injective cellAt := by
  rintro ⟨c, k⟩ ⟨c', k'⟩ h
  have h1 : c = c' := congrArg (fun g : GSem nD τ sig => g.1.1) h
  have h2 : k = k' := sem_inj (congrArg Prod.snd h)
  rw [h1, h2]

/-- The five kinds of tokens device `c` pays with, for layer `ℓ` and the device `d` at the other end. -/
def tokAt : Dev nD × Fin 5 × Fin 3 × Dev nD → GSem nD τ sig × ℕ × Dev nD
  | (c, 0, ℓ, d) => (gcell d .bar, ℓ.val, c)
  | (c, 1, ℓ, d) => (gcell c .ags, ℓ.val, d)
  | (c, 2, ℓ, d) => (gcell d (.agr c), ℓ.val, c)
  | (c, 3, ℓ, d) => (gcell c .rss, ℓ.val, d)
  | (c, 4, ℓ, d) => (gcell d .rsr, ℓ.val, c)

/-- Which token it is, read off the cell, the round and the duty. -/
def tokInv (x : GSem nD τ sig × ℕ × Dev nD) : Dev nD × Fin 5 × ℕ × Dev nD :=
  match kind x.1.2 with
  | some .ags => (x.1.1.1, 1, x.2.1, x.2.2)
  | some (.agr _) => (x.2.2, 2, x.2.1, x.1.1.1)
  | some .rss => (x.1.1.1, 3, x.2.1, x.2.2)
  | some .rsr => (x.2.2, 4, x.2.1, x.1.1.1)
  | _ => (x.2.2, 0, x.2.1, x.1.1.1)

theorem tokInv_tokAt (c : Dev nD) (t : Fin 5) (ℓ : Fin 3) (d : Dev nD) : tokInv (tokAt (c, t, ℓ, d)) = (c, t, ℓ.val, d) := by
  fin_cases t <;>
  · unfold tokInv
    dsimp only [tokAt]
    rw [kind_sem]
    rfl

theorem tokAt_inj : Function.Injective tokAt := by
  rintro ⟨c, t, ℓ, d⟩ ⟨c', t', ℓ', d'⟩ h
  have h' := congrArg tokInv h
  rw [tokInv_tokAt, tokInv_tokAt] at h'
  simp only [Prod.mk.injEq] at h' ⊢
  exact ⟨h'.1, h'.2.1, Fin.ext h'.2.2.1, h'.2.2.2⟩

def theCells : Finset (GSem nD τ sig) := Finset.univ.map ⟨cellAt, cellAt_inj⟩
def theToks : Finset (GSem nD τ sig × ℕ × Dev nD) := Finset.univ.map ⟨tokAt, tokAt_inj⟩

def u₀ : UU := (initOf (Pipeline.cells cfgs cellOf_inj) (Pipeline.launchToks cfgs cellOf_inj), initOf theCells theToks)

def tokens (c : Dev nD) (t : Fin 5) : sProp 𝕄 :=
  bigSep Finset.univ fun ℓ : Fin 3 => bigSep Finset.univ fun d : Dev nD =>
    dutyTok ER (tokAt (c, t, ℓ, d)).1 (tokAt (c, t, ℓ, d)).2.1 (tokAt (c, t, ℓ, d)).2.2

def toks (c : Dev nD) : sProp 𝕄 := bigSep Finset.univ (tokens c)

theorem bigSep_fin3 (Φ : ℕ → sProp 𝕄) : bigSep Finset.univ (fun ℓ : Fin 3 => Φ ℓ.val) = bigSep (Finset.Ico 0 3) Φ := by
  rw [show Finset.Ico 0 3 = (Finset.univ : Finset (Fin 3)).map Fin.valEmbedding from by decide, bigSep_map]
  rfl

theorem bigSep_cell (Φ : Cell → sProp 𝕄) :
    bigSep Finset.univ Φ = iprop(Φ .bar ∗ Φ .ags ∗ Φ .rss ∗ Φ .rsr ∗ bigSep Finset.univ fun p => Φ (.agr p)) := by
  have hu : (Finset.univ : Finset Cell) = insert .bar (insert .ags (insert .rss (insert .rsr (Finset.univ.image Cell.agr)))) := by decide +kernel
  rw [hu, ins_eq (by decide +kernel), ins_eq (by decide +kernel), ins_eq (by decide +kernel), ins_eq (by decide +kernel),
    bigSep_image_of_injOn (fun a _ b _ h => Cell.agr.inj h)]

theorem agr_split (c : Dev nD) (Φ : Cell → sProp 𝕄) :
    bigSep Finset.univ Φ = iprop(Φ .bar ∗ Φ .ags ∗ Φ .rss ∗ Φ .rsr ∗ Φ (.agr c) ∗ bigSep (Finset.univ.erase c) fun p => Φ (.agr p)) := by
  rw [bigSep_cell, era_eq c]

/-- What one kind's tokens hold for each layer's peers. -/
theorem tokens_use (c : Dev nD) (t : Fin 5) (Φ : ℕ → Dev nD → sProp 𝕄)
    (h : ∀ (ℓ : Fin 3) (d : Dev nD), dutyTok ER (tokAt (c, t, ℓ, d)).1 (tokAt (c, t, ℓ, d)).2.1 (tokAt (c, t, ℓ, d)).2.2 = Φ ℓ.val d) :
    tokens (F := F) c t ⊢ bigSep (Finset.Ico 0 3) fun ℓ => bigSep (Finset.univ.erase c) (Φ ℓ) := by
  unfold tokens
  rw [← bigSep_fin3]
  refine bigSep_mono fun ℓ _ => ?_
  rw [bigSep_congr fun d _ => h ℓ d]
  exact bigSep_subset (Finset.erase_subset _ _)

/-- Units given one by one. -/
theorem tally_nsmul (g : GSem nD τ sig) (u a n : ℕ) : (tallyAt g u (n * a) : CellTallies nD τ sig ℕ) = n • tallyAt g u a := by
  induction n with
  | zero => rw [Nat.zero_mul, zero_smul]; exact tallyAt_zero _ _
  | succ n ih => rw [succ_nsmul, ← ih, Nat.succ_mul]; exact (tallyAt_add _ _ _ _).symm

/-- The barrier tokens a device pays with; -/
theorem tokens_bar (c : Dev nD) : tokens (F := F) c 0 ⊢ bigSep (Finset.univ.erase c) fun p => dutyTok ER (gcell p .bar) 0 c :=
  BIBase.Entails.trans (tokens_use c 0 (fun ℓ d => dutyTok ER (gcell d .bar) ℓ c) fun ℓ d => rfl) (bigSep_elim (i := 0) (by decide))

/-- those of the activations' sends; -/
theorem tokens_ag (c : Dev nD) : iprop(tokens (F := F) c 1 ∗ tokens c 2) ⊢ bigSep (Finset.Ico 0 3) fun ℓ => bigSep (Finset.Ico 0 15) (TokA c ℓ) := by
  refine BIBase.Entails.trans (BI.sep_mono (tokens_use c 1 (fun ℓ d => dutyTok ER (gcell c .ags) ℓ d) fun ℓ d => rfl)
    (tokens_use c 2 (fun ℓ d => dutyTok ER (gcell d (.agr c)) ℓ c) fun ℓ d => rfl)) (Entails.of_eq ?_)
  refine (bigSep_sep' _ _ _).symm.trans (bigSep_congr fun ℓ _ => ?_)
  rw [← bigSep_up c, ← bigSep_up c]
  exact (bigSep_sep' _ _ _).symm

/-- those of the partial products' sends. -/
theorem tokens_rs (c : Dev nD) : iprop(tokens (F := F) c 3 ∗ tokens c 4) ⊢ bigSep (Finset.Ico 0 3) fun ℓ => bigSep (Finset.Ico 0 15) fun i =>
    iprop(dutyTok ER (gcell c .rss) ℓ (dn c i) ∗ dutyTok ER (gcell (dn c i) .rsr) ℓ c) := by
  refine BIBase.Entails.trans (BI.sep_mono (tokens_use c 3 (fun ℓ d => dutyTok ER (gcell c .rss) ℓ d) fun ℓ d => rfl)
    (tokens_use c 4 (fun ℓ d => dutyTok ER (gcell d .rsr) ℓ c) fun ℓ d => rfl)) (Entails.of_eq ?_)
  refine (bigSep_sep' _ _ _).symm.trans (bigSep_congr fun ℓ _ => ?_)
  rw [← bigSep_dn c, ← bigSep_dn c]
  exact (bigSep_sep' _ _ _).symm

/-! ## The credits -/

/-- What device `c` owes at the start. -/
def O₀ (c : Dev nD) : CellTallies nD τ sig ℕ := barO c 0 + later c 0

theorem cred_bar (c : Dev nD) : (Pipeline.launchCred (fun d => barO d 0) c : sProp 𝕄) = cred (tallyAt (gcell c .bar) 0 15) := by
  refine Pipeline.launchCred_of_sum _ (fun d => tallyAt (gcell d .bar) 0 15) ?_ ?_ c
  · have h (d : Dev nD) : (tallyAt (gcell d .bar) 0 15 : CellTallies nD τ sig ℕ) = ∑ p ∈ Finset.univ.erase d, tallyAt (gcell d .bar) 0 1 := by
      rw [Finset.sum_const, card_erase]
      exact tally_nsmul _ _ 1 15
    simp only [barO, peers_zero, h]
    exact Finset.sum_comm' (fun x y => by simp [ne_comm])
  · intro d g hg
    by_contra h
    exact hg (tallyAt_ne_cell (fun e => h (by rw [e])) _ _)

theorem cred_ag (ℓ i : ℕ) (hi : i < 15) (c : Dev nD) :
    (Pipeline.launchCred (fun d => agT d ℓ i) c : sProp 𝕄) = cred (tallyAt (gcell c (.agr (dn c i))) ℓ N) := by
  refine Pipeline.launchCred_of_sum _ (fun d => tallyAt (gcell d (.agr (dn d i))) ℓ N) ?_ ?_ c
  · refine Fintype.sum_equiv ⟨fun d => up d i, fun d => dn d i, fun d => dn_up d hi, fun d => up_dn d hi⟩ _ _ fun d => ?_
    show _ = tallyAt (gcell (up d i) (.agr (dn (up d i) i))) ℓ N
    rw [dn_up d hi]; rfl
  · intro d g hg
    by_contra h
    exact hg (tallyAt_ne_cell (fun e => h (by rw [e])) _ _)

theorem cred_rs (ℓ i : ℕ) (hi : i < 15) (c : Dev nD) :
    (Pipeline.launchCred (fun d => rsT d ℓ i) c : sProp 𝕄) ⊢ cred (tallyAt (gcell c .rsr) ℓ N) :=
  Pipeline.launchCred_tallyAt _ (fun d => dn d i) (fun d => up d i) (fun d => dn_up d hi) (fun d => up_dn d hi) ℓ N c

/-- What a device is owed at the start: the barrier's units, and each layer's landings. -/
theorem creds (c : Dev nD) : (Pipeline.launchCred O₀ c : sProp 𝕄) ⊢ iprop(cred (tallyAt (gcell c .bar) 0 15)
    ∗ bigSep (Finset.Ico 0 3) fun ℓ => iprop((bigSep (Finset.Ico 0 15) fun i => cred (tallyAt (gcell c (.agr (dn c i))) ℓ N)) ∗ TokW c ℓ)) := by
  refine (Entails.of_eq (Pipeline.launchCred_add _ _ c)).trans (BI.sep_mono (Entails.of_eq (cred_bar c)) ?_)
  refine (Entails.of_eq (Pipeline.launchCred_sum _ _ c)).trans (bigSep_mono fun ℓ _ => ?_)
  refine (Entails.of_eq (Pipeline.launchCred_add _ _ c)).trans (BI.sep_mono ?_ ?_)
  · refine (Entails.of_eq (Pipeline.launchCred_sum _ _ c)).trans (bigSep_mono fun i hi => ?_)
    exact Entails.of_eq (cred_ag ℓ i (Finset.mem_Ico.mp hi).2 c)
  · unfold TokW
    refine (Entails.of_eq (Pipeline.launchCred_sum _ _ c)).trans (bigSep_mono fun i hi => ?_)
    exact cred_rs ℓ i (Finset.mem_Ico.mp hi).2 c

/-- Tokens and credits make up what the layers are paid with. -/
theorem lat_intro (c : Dev nD) :
    iprop((bigSep (Finset.Ico 0 3) fun ℓ => bigSep (Finset.Ico 0 15) (TokA (F := F) c ℓ))
      ∗ (bigSep (Finset.Ico 0 3) fun ℓ => bigSep (Finset.Ico 0 15) fun i =>
          iprop(dutyTok ER (gcell c .rss) ℓ (dn c i) ∗ dutyTok ER (gcell (dn c i) .rsr) ℓ c))
      ∗ (bigSep (Finset.Ico 0 3) fun ℓ => iprop((bigSep (Finset.Ico 0 15) fun i => cred (tallyAt (gcell c (.agr (dn c i))) ℓ N)) ∗ TokW c ℓ)))
    ⊢ Lat c 0 := by
  unfold Lat
  rw [← bigSep_sep', ← bigSep_sep']
  refine bigSep_mono fun ℓ _ => ?_
  unfold Tok
  have h : (bigSep (Finset.Ico 0 15) (TokM (F := F) c ℓ))
      = iprop((bigSep (Finset.Ico 0 15) fun i => iprop(dutyTok ER (gcell c .rss) ℓ (dn c i) ∗ dutyTok ER (gcell (dn c i) .rsr) ℓ c))
        ∗ bigSep (Finset.Ico 0 15) fun i => cred (tallyAt (gcell c (.agr (dn c i))) ℓ N)) := by
    rw [← bigSep_sep']
    refine bigSep_congr fun i _ => ?_
    unfold TokM
    refine BI.equiv_iff.mp ⟨?_, ?_⟩
    · refine ent ?_
      iintro ⟨H1, H2, H3⟩
      iframe
    · refine ent ?_
      iintro ⟨⟨H1, H2⟩, H3⟩
      iframe
  rw [h]
  refine ent ?_
  iintro ⟨H1, H2, H3, H4⟩
  iframe

end Cert.MlpProof
end
-- ==== Proof.PhaseStepsB.lean ====
/-
# The steps of a layer's partial products
-/
module

public import proofs.«01_k».proof.Proof.PhaseSteps

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Dev nD → Ins F) (K : Dev nD × Cell → ℕ) {c : Dev nD} {α : Type}

/-! ## The device's own partial product -/

section Mine

variable {Q : PUnit → sProp (MT nD τ sig ℕ (Elt F) ℕ UU ℕ)}

theorem phA_end {ℓ : ℕ} {G : sProp 𝕄} (h : St A c K (PhM A c ℓ (slotAny pM c c) (slotAny rM c c)) ⊢ G) : St A c K (PhA A c ℓ 15) ⊢ G := by
  refine BIBase.Entails.trans ?_ h
  unfold St PhA PhM
  rw [agO_end, zero_add]
  iintro ⟨#HC, HS, HO, -, H1, H2, H3, H4, H5, -, -, #H6, H7, H8⟩
  iframe
  iframe HC H6

theorem m_load_x {ℓ : ℕ} {Zp Zr : sProp (MT nD τ sig ℕ (Elt F) ℕ UU ℕ)} {off : Fin 3 → ℕ} (hoff : off = ![c.val, 0, 0]) {inb hl} {Q : Blk F → sProp 𝕄}
    (h : St A c K (PhM A c ℓ Zp Zr) ⊢ Q (Xc A ℓ c)) :
    St A c K (PhM A c ℓ Zp Zr) ⊢ WP c (Prog.lift (.load xM (Rect.unit (s := S16x128x128) off S1x128x128.size inb).toLoadRect hl)) Q := by
  refine lift_load (S' := iprop(slot xM c c (shr c) (Xc A ℓ c) -∗ St A c K (PhM A c ℓ Zp Zr))) xM c (shr c) (Xc A ℓ c) hoff ?_ (wand_use h)
  unfold St PhM
  iintro ⟨#HC, HS, HO, H1, H2, H, H3⟩
  iframe H
  iintro H
  iframe
  iexact HC

theorem m_load_p {ℓ : ℕ} {Zr : sProp (MT nD τ sig ℕ (Elt F) ℕ UU ℕ)} {off : Fin 3 → ℕ} (hoff : off = ![c.val, 0, 0]) {inb hl} {Q : Blk F → sProp 𝕄}
    (h : ∀ v, St A c K (PhM A c ℓ (slotAny pM c c) Zr) ⊢ Q v) :
    St A c K (PhM A c ℓ (slotAny pM c c) Zr) ⊢ WP c (Prog.lift (.load pM (Rect.unit (s := S16x128x128) off S1x128x128.size inb).toLoadRect hl)) Q := by
  refine lift_load_any (S' := iprop(slotAny pM c c -∗ St A c K (PhM A c ℓ (slotAny pM c c) Zr))) pM c hoff ?_ fun v => wand_use (h v)
  unfold St PhM
  iintro ⟨#HC, HS, HO, H, H2⟩
  iframe H
  iintro H
  iframe
  iexact HC

theorem m_store_p {ℓ : ℕ} {Zr : sProp (MT nD τ sig ℕ (Elt F) ℕ UU ℕ)} {off : Fin 3 → ℕ} (hoff : off = ![c.val, 0, 0]) {inb} {w : Blk F}
    (hw : w = Pc A ℓ c c) {hx hm} (h : St A c K (PhM A c ℓ (slot pM c c fullShare (Pc A ℓ c c)) Zr) ⊢ Q ⟨⟩) :
    St A c K (PhM A c ℓ (slotAny pM c c) Zr)
      ⊢ WP c (Prog.lift (.store pM (Rect.unit (s := S16x128x128) off S1x128x128.size inb) w Finset.univ hx hm)) Q := by
  subst hw
  refine lift_store (S' := iprop(slot pM c c fullShare (Pc A ℓ c c) -∗ St A c K (PhM A c ℓ (slot pM c c fullShare (Pc A ℓ c c)) Zr))) pM c hoff ?_ (wand_use h)
  unfold St PhM
  iintro ⟨#HC, HS, HO, H, H2⟩
  iframe H
  iintro H
  iframe
  iexact HC

theorem m_load_pv {ℓ : ℕ} {Zr : sProp (MT nD τ sig ℕ (Elt F) ℕ UU ℕ)} {off : Fin 3 → ℕ} (hoff : off = ![c.val, 0, 0]) {inb hl} {Q : Blk F → sProp 𝕄}
    (h : St A c K (PhM A c ℓ (slot pM c c fullShare (Pc A ℓ c c)) Zr) ⊢ Q (Pc A ℓ c c)) :
    St A c K (PhM A c ℓ (slot pM c c fullShare (Pc A ℓ c c)) Zr)
      ⊢ WP c (Prog.lift (.load pM (Rect.unit (s := S16x128x128) off S1x128x128.size inb).toLoadRect hl)) Q := by
  refine lift_load (S' := iprop(slot pM c c fullShare (Pc A ℓ c c) -∗ St A c K (PhM A c ℓ (slot pM c c fullShare (Pc A ℓ c c)) Zr)))
    pM c fullShare (Pc A ℓ c c) hoff ?_ (wand_use h)
  unfold St PhM
  iintro ⟨#HC, HS, HO, H, H2⟩
  iframe H
  iintro H
  iframe
  iexact HC

theorem m_load_r {ℓ : ℕ} {Zp : sProp (MT nD τ sig ℕ (Elt F) ℕ UU ℕ)} {off : Fin 3 → ℕ} (hoff : off = ![c.val, 0, 0]) {inb hl} {Q : Blk F → sProp 𝕄}
    (h : ∀ v, St A c K (PhM A c ℓ Zp (slotAny rM c c)) ⊢ Q v) :
    St A c K (PhM A c ℓ Zp (slotAny rM c c)) ⊢ WP c (Prog.lift (.load rM (Rect.unit (s := S16x128x128) off S1x128x128.size inb).toLoadRect hl)) Q := by
  refine lift_load_any (S' := iprop(slotAny rM c c -∗ St A c K (PhM A c ℓ Zp (slotAny rM c c)))) rM c hoff ?_ fun v => wand_use (h v)
  unfold St PhM
  iintro ⟨#HC, HS, HO, H1, H, H2⟩
  iframe H
  iintro H
  iframe
  iexact HC

theorem m_store_r {ℓ : ℕ} {off : Fin 3 → ℕ} (hoff : off = ![c.val, 0, 0]) {inb} {w : Blk F}
    (hw : w = Pc A ℓ c c) {hx hm} (h : St A c K (PhB A c ℓ 0) ⊢ Q ⟨⟩) :
    St A c K (PhM A c ℓ (slot pM c c fullShare (Pc A ℓ c c)) (slotAny rM c c))
      ⊢ WP c (Prog.lift (.store rM (Rect.unit (s := S16x128x128) off S1x128x128.size inb) w Finset.univ hx hm)) Q := by
  subst hw
  refine lift_store (S' := iprop(slot rM c c fullShare (Pc A ℓ c c) -∗ St A c K (PhB A c ℓ 0))) rM c hoff ?_ (wand_use h)
  unfold St PhM PhB Own
  rw [Finset.range_zero, bigSep_empty, show sent (F := F) c .rss ℓ 0 = iprop(emp) from rfl]
  iintro ⟨#HC, HS, HO, H1, H, H2, H3, #H4, H5⟩
  iframe H
  iintro H
  iframe
  isplitl []
  · iexact HC
  isplitl []
  · iempintro
  iexact H4

end Mine

/-! ## The peers' partial products -/

section Theirs

variable {Q : PUnit → sProp (MT nD τ sig ℕ (Elt F) ℕ UU ℕ)}

/-- The arrival of a peer's activations. -/
theorem agr_wait {ℓ j : ℕ} (hℓ : ℓ < 3) (hj : j < 15) {sem : DmaSem sig} (hsem : SemLoc.dma sem = (Cell.agr (dn c j)).sem)
    {s s' : Shape} {e e' : EltTy} {src : Memref sig .tc .vmem s' e'} {dst : Memref sig .tc .vmem s e} (hN : dst.view.dmaCredit = N) {h1 h2}
    (h : St A c K (PhBw A c ℓ j (slotAny pM c (dn c j))) ⊢ Q ⟨⟩) :
    St A c K (PhB A c ℓ j) ⊢ WP c (Prog.lift (.waitDma2 sem src dst h1 h2)) Q := by
  have hd : duty c (.agr (dn c j)) ℓ = {dn c j} := duty_agr c hℓ (dn_ne c hj)
  refine lift_waitAll (Xc A) (Pc A) K (.agr (dn c j)) ℓ N hℓ (by rw [hd]; exact one_mul N) (rsO c ℓ j + later c (ℓ + 1))
    ((above_rsO c hℓ (show 2 + 2 * ℓ < 3 + 2 * ℓ by omega)).add (above_later c (show 2 + 2 * ℓ < 2 + 2 * (ℓ + 1) by omega)))
    (fun R => (wpE_waitDma2_eq 𝒱₀ (Dev.tc c : Thread nD τ) none Set.univ R).trans (by rw [hsem, hN]))
    (S' := iprop(Owes c (rsO c ℓ j + later c (ℓ + 1)) -∗ atPos ER (gcell c (.agr (dn c j))) (ℓ + 1) ∅ 0
      -∗ reached ER (gcell c (.agr (dn c j))) (ℓ + 1) -∗ pay (Xc A) (Pc A) c (.agr (dn c j)) ℓ (dn c j)
      -∗ St A c K (PhBw A c ℓ j (slotAny pM c (dn c j))))) ?_ ?_
  · unfold St PhB PhBw
    rw [bigSep_Ico_succ_bot hj, rsTodo_def c ℓ j, show pay (Xc A) (Pc A) c (.agr (dn c j)) ℓ (dn c j)
      = iprop(slot xM c (dn c j) fullShare (Xc A ℓ (dn c j)) ∗ slotAny rM (dn c j) c ∗ reached ER (gcell (dn c j) .rsr) ℓ) from rfl]
    iintro ⟨#HC, HS, HO, ⟨⟨H1, ⟨H2, H3, H4⟩, H5⟩, H6⟩, H7, H8, H9, #H10, H11, H12, HW⟩
    iframe HC H4 HW H5
    iintro HW Hp #Hr ⟨H13, H14, #H15⟩
    iframe
    iframe H15 Hr H10
  · refine BIBase.Entails.trans ?_ h
    iintro ⟨HO, Ha, Hr, Hp, H⟩
    ihave Hp := (Entails.of_eq ((congrArg (fun s => bigSep s (pay (Xc A) (Pc A) c (.agr (dn c j)) ℓ)) hd).trans bigSep_singleton)) $$ Hp
    iapply H $$ HO Ha Hr
    iexact Hp

theorem w_load_x {ℓ j : ℕ} {Z : sProp (MT nD τ sig ℕ (Elt F) ℕ UU ℕ)} {off : Fin 3 → ℕ} (hoff : off = ![(dn c j).val, 0, 0]) {inb hl} {Q : Blk F → sProp 𝕄}
    (h : St A c K (PhBw A c ℓ j Z) ⊢ Q (Xc A ℓ (dn c j))) :
    St A c K (PhBw A c ℓ j Z) ⊢ WP c (Prog.lift (.load xM (Rect.unit (s := S16x128x128) off S1x128x128.size inb).toLoadRect hl)) Q := by
  refine lift_load (S' := iprop(slot xM c (dn c j) fullShare (Xc A ℓ (dn c j)) -∗ St A c K (PhBw A c ℓ j Z)))
    xM (dn c j) fullShare (Xc A ℓ (dn c j)) hoff ?_ (wand_use h)
  unfold St PhBw
  iintro ⟨#HC, HS, HO, H1, H, H3⟩
  iframe H
  iintro H
  iframe
  iexact HC

theorem w_load_p {ℓ j : ℕ} {off : Fin 3 → ℕ} (hoff : off = ![(dn c j).val, 0, 0]) {inb hl} {Q : Blk F → sProp 𝕄}
    (h : ∀ v, St A c K (PhBw A c ℓ j (slotAny pM c (dn c j))) ⊢ Q v) :
    St A c K (PhBw A c ℓ j (slotAny pM c (dn c j)))
      ⊢ WP c (Prog.lift (.load pM (Rect.unit (s := S16x128x128) off S1x128x128.size inb).toLoadRect hl)) Q := by
  refine lift_load_any (S' := iprop(slotAny pM c (dn c j) -∗ St A c K (PhBw A c ℓ j (slotAny pM c (dn c j)))))
    pM (dn c j) hoff ?_ fun v => wand_use (h v)
  unfold St PhBw
  iintro ⟨#HC, HS, HO, H, H3⟩
  iframe H
  iintro H
  iframe
  iexact HC

theorem w_store_p {ℓ j : ℕ} {off : Fin 3 → ℕ} (hoff : off = ![(dn c j).val, 0, 0]) {inb} {w : Blk F} (hw : w = Pc A ℓ c (dn c j)) {hx hm}
    (h : St A c K (PhBw A c ℓ j (slot pM c (dn c j) fullShare (Pc A ℓ c (dn c j)))) ⊢ Q ⟨⟩) :
    St A c K (PhBw A c ℓ j (slotAny pM c (dn c j)))
      ⊢ WP c (Prog.lift (.store pM (Rect.unit (s := S16x128x128) off S1x128x128.size inb) w Finset.univ hx hm)) Q := by
  subst hw
  refine lift_store (S' := iprop(slot pM c (dn c j) fullShare (Pc A ℓ c (dn c j))
    -∗ St A c K (PhBw A c ℓ j (slot pM c (dn c j) fullShare (Pc A ℓ c (dn c j)))))) pM (dn c j) hoff ?_ (wand_use h)
  unfold St PhBw
  iintro ⟨#HC, HS, HO, H, H3⟩
  iframe H
  iintro H
  iframe
  iexact HC

theorem sent_succ (c : Dev nD) (k : Cell) (ℓ j : ℕ) : sent (F := F) c k ℓ (j + 1) = iprop(cred (tallyAt (gcell c k) ℓ N) ∗ sent c k ℓ j) :=
  bigSep_range_succ j fun _ => cred (tallyAt (gcell c k) ℓ N)

theorem back_keep (ℓ j : ℕ) : iprop(slotAny xM c (dn c j) ∗ reached ER (gcell c (.agr (dn c j))) (ℓ + 1)) ⊢ (iprop(back ℓ (dn c j) c ∗ keep c ℓ j) : sProp 𝕄) := by
  unfold back keep
  by_cases h : ℓ < 2
  · rw [if_pos h, if_pos h]
    iintro H
    isplitl [H]
    · iexact H
    · iempintro
  · rw [if_neg h, if_neg h]
    iintro ⟨H, -⟩
    isplitr [H]
    · iempintro
    · iexact H

/-- The send of a partial product to its device. -/
theorem rs_send {ℓ j : ℕ} (hℓ : ℓ < 3) (hj : j < 15) {cd : Dev nD} (hcd : cd = dn c j) {sS sD : DmaSem sig} (hsS : SemLoc.dma sS = Cell.rss.sem)
    (hsD : SemLoc.dma sD = Cell.rsr.sem) {offa offb : Fin 3 → ℕ} (hoffa : offa = ![(dn c j).val, 0, 0]) (hoffb : offb = ![c.val, 0, 0])
    {inba inbb} {ha ha' hb hb' hsc hsrc hdst hsem} (h : St A c K (PhB A c ℓ (j + 1)) ⊢ Q ⟨⟩) :
    St A c K (PhBw A c ℓ j (slot pM c (dn c j) fullShare (Pc A ℓ c (dn c j))))
      ⊢ WP c (Prog.lift (.enqueueDma ((pM.slice (Rect.unit (s := S16x128x128) offa S1x128x128.size inba) ha).squeeze S128x128 ha')
      (.remote (Dev.tc cd) ((rM.slice (Rect.unit (s := S16x128x128) offb S1x128x128.size inbb) hb).squeeze S128x128 hb') (.dma sS) hsc)
      (.dma sD) hsrc hdst hsem)) Q := by
  refine lift_send (Xc A) (Pc A) K (S' := iprop(cred (tallyAt (gcell c .rss) ℓ N)
      -∗ Owes c (rsO c ℓ (j + 1) + later c (ℓ + 1)) -∗ St A c K (PhB A c ℓ (j + 1)))) pM rM rfl
    (dn c j) c (dn c j) .rss .rsr fullShare (Pc A ℓ c (dn c j)) ℓ (dn c j) c (back ℓ (dn c j) c)
    (rsO c ℓ (j + 1) + later c (ℓ + 1)) rfl rfl
    (by rw [duty_rss c hℓ]; exact dn_mem c hj) (by rw [duty_rsr _ hℓ]; exact mem_erase_of (dn_ne c hj))
    (slot_any pM c (dn c j) _) BIBase.Entails.refl hcd hsS hsD hoffa hoffb ?_ (wand_use2 h)
  unfold St PhBw PhB
  rw [rsO_step c ℓ hj, bigSep_range_succ j (rsDone c ℓ), sent_succ c .rss ℓ j,
    show rsT c ℓ j + rsO c ℓ (j + 1) + later c (ℓ + 1) = rsO c ℓ (j + 1) + later c (ℓ + 1) + tallyAt (gcell (dn c j) .rsr) ℓ N by
    rw [add_comm (rsT c ℓ j), add_assoc, add_comm (rsT c ℓ j), ← add_assoc]; rfl,
    show rsDone (F := F) c ℓ j = iprop(keep c ℓ j ∗ atPos ER (gcell c (.agr (dn c j))) (ℓ + 1) ∅ 0) from rfl]
  iintro ⟨#HC, HS, HO, H1, H2, H3, #H4, H5, H6, H7, #H8, H9, H10, H11, H12, #H13, H14, H15, HW⟩
  ihave H2 := (slot_any xM c (dn c j) _) $$ H2
  ihave H2 := (back_keep ℓ j) $$ [H2 H8]
  · isplitl [H2]
    · iexact H2
    · iexact H8
  icases H2 with ⟨H2, H16⟩
  iframe HC H1 H2 H3 H5 H6 HW H4 H13
  iintro Hc HW
  iframe

end Theirs

end Cert.MlpProof
end
-- ==== Proof.PhaseStepsC.lean ====
/-
# The closing steps of a layer and of the kernel
-/
module

public import proofs.«01_k».proof.Proof.PhaseStepsB

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Dev nD → Ins F) (K : Dev nD × Cell → ℕ) {c : Dev nD} {α : Type}

/-! ## The closing waits of a layer -/

section Waits

variable {Q : PUnit → sProp (MT nD τ sig ℕ (Elt F) ℕ UU ℕ)}

theorem Wt_start (k : Cell) (ℓ : ℕ) : iprop(atPos ER (gcell c k) ℓ ∅ 0 ∗ sent c k ℓ 15) ⊢ Wt (Xc A) (Pc A) c k ℓ 0 := by
  unfold Wt sent
  rw [if_pos (by decide), Finset.range_eq_Ico, zero_mul]
  iintro ⟨H, Hc⟩
  isplitl [H]
  · iexists (∅ : Finset (Dev nD))
    isplitr [H]
    · ipureintro; exact Finset.empty_subset _
    rw [bigSep_empty]
    isplitr [H]
    · iempintro
    · iexact H
  · iexact Hc

theorem phB_end {ℓ : ℕ} {G : sProp 𝕄} (h : St A c K (PhW A c ℓ 0 0 0) ⊢ G) : St A c K (PhB A c ℓ 15) ⊢ G := by
  refine BIBase.Entails.trans ?_ h
  unfold St PhB PhW Base
  rw [rsO_end, zero_add]
  iintro ⟨#HC, HS, HO, -, H1, H2, H3, -, H4, ⟨H5, H6, H7, H8, H9, H10⟩, HW⟩
  ihave H5 := (Wt_start A .rsr ℓ) $$ [H6 H5]
  · isplitl [H6]
    · iexact H6
    · unfold sent TokW
      rw [Finset.range_eq_Ico]
      iexact H5
  ihave H2 := (Wt_start A .rss ℓ) $$ [H7 H2]
  · isplitl [H7]
    · iexact H7
    · iexact H2
  ihave H4 := (Wt_start A .ags ℓ) $$ [H8 H4]
  · isplitl [H8]
    · iexact H8
    · iexact H4
  rw [show (Finset.Ico 0 15) = Finset.range 15 from (Finset.range_eq_Ico 15).symm]
  iframe
  iexact HC

variable {s s' : Shape} {e e' : EltTy} {src : Memref sig .tc .vmem s' e'} {dst : Memref sig .tc .vmem s e} {sem : DmaSem sig} {h1 : src.view.WordExact} {h2 : dst.view.WordExact}

theorem rsr_wait {ℓ a b d : ℕ} (hℓ : ℓ < 3) (ha : a < 15) (hsem : SemLoc.dma sem = Cell.rsr.sem) (hN : dst.view.dmaCredit = N)
    (h : St A c K (PhW A c ℓ (a + 1) b d) ⊢ Q ⟨⟩) :
    St A c K (PhW A c ℓ a b d) ⊢ WP c (Prog.lift (.waitDma2 sem src dst h1 h2)) Q := by
  refine lift_wait (Xc A) (Pc A) K .rsr ℓ a hℓ ha rfl (duty_rsr c hℓ) (later c (ℓ + 1)) (above_later c (show 3 + 2 * ℓ < 2 + 2 * (ℓ + 1) by omega))
    (fun R => (wpE_waitDma2_eq 𝒱₀ (Dev.tc c : Thread nD τ) none Set.univ R).trans (by rw [hsem, hN]))
    (S' := iprop(Wt (Xc A) (Pc A) c .rsr ℓ (a + 1) -∗ Owes c (later c (ℓ + 1)) -∗ St A c K (PhW A c ℓ (a + 1) b d))) ?_ (wand_use2 h)
  unfold St PhW
  iintro ⟨#HC, HS, HO, H1, H2, H3, H4, H5, H6, H7, HW⟩
  iframe HC H1 HW
  iintro H1 HW
  iframe

theorem rss_wait {ℓ a b d : ℕ} (hℓ : ℓ < 3) (hb : b < 15) (hsem : SemLoc.dma sem = Cell.rss.sem) (hN : dst.view.dmaCredit = N)
    (h : St A c K (PhW A c ℓ a (b + 1) d) ⊢ Q ⟨⟩) :
    St A c K (PhW A c ℓ a b d) ⊢ WP c (Prog.lift (.waitDma2 sem src dst h1 h2)) Q := by
  refine lift_wait (Xc A) (Pc A) K .rss ℓ b hℓ hb rfl (duty_rss c hℓ) (later c (ℓ + 1)) (above_later c (show 0 < 2 + 2 * (ℓ + 1) by omega))
    (fun R => (wpE_waitDma2_eq 𝒱₀ (Dev.tc c : Thread nD τ) none Set.univ R).trans (by rw [hsem, hN]))
    (S' := iprop(Wt (Xc A) (Pc A) c .rss ℓ (b + 1) -∗ Owes c (later c (ℓ + 1)) -∗ St A c K (PhW A c ℓ a (b + 1) d))) ?_ (wand_use2 h)
  unfold St PhW
  iintro ⟨#HC, HS, HO, H1, H2, H3, H4, H5, H6, H7, HW⟩
  iframe HC H2 HW
  iintro H2 HW
  iframe

theorem ags_wait {ℓ a b d : ℕ} (hℓ : ℓ < 3) (hd : d < 15) (hsem : SemLoc.dma sem = Cell.ags.sem) (hN : dst.view.dmaCredit = N)
    (h : St A c K (PhW A c ℓ a b (d + 1)) ⊢ Q ⟨⟩) :
    St A c K (PhW A c ℓ a b d) ⊢ WP c (Prog.lift (.waitDma2 sem src dst h1 h2)) Q := by
  refine lift_wait (Xc A) (Pc A) K .ags ℓ d hℓ hd rfl (duty_ags c hℓ) (later c (ℓ + 1)) (above_later c (show 0 < 2 + 2 * (ℓ + 1) by omega))
    (fun R => (wpE_waitDma2_eq 𝒱₀ (Dev.tc c : Thread nD τ) none Set.univ R).trans (by rw [hsem, hN]))
    (S' := iprop(Wt (Xc A) (Pc A) c .ags ℓ (d + 1) -∗ Owes c (later c (ℓ + 1)) -∗ St A c K (PhW A c ℓ a b (d + 1)))) ?_ (wand_use2 h)
  unfold St PhW
  iintro ⟨#HC, HS, HO, H1, H2, H3, H4, H5, H6, H7, HW⟩
  iframe HC H3 HW
  iintro H3 HW
  iframe

end Waits

/-! ## The reduction -/

theorem Wt_end (k : Cell) (ℓ : ℕ) : Wt (Xc A) (Pc A) c k ℓ 15
    = iprop(bigSep (Finset.univ.erase c) (pay (Xc A) (Pc A) c k ℓ) ∗ atPos ER (gcell c k) (ℓ + 1) ∅ 0 ∗ reached ER (gcell c k) (ℓ + 1)) := if_neg (by decide)

theorem pay_rsr (ℓ : ℕ) : bigSep (Finset.univ.erase c) (pay (Xc A) (Pc A) c .rsr ℓ)
    = iprop(bigSep (Finset.univ.erase c) (fun d => slot rM c d fullShare (Pc A ℓ d c)) ∗ bigSep (Finset.univ.erase c) (fun d => back ℓ c d)) :=
  bigSep_sep' _ (fun d => slot rM c d fullShare (Pc A ℓ d c)) _

theorem rep_glue (Y : Dev nD → Blk F) : rM.view.rep (glue Y) = glue Y := by
  funext i
  show rM.view.rep (glue Y) (rM.view.emb i) = _
  rw [View.rep_emb]
  exact cast_eq _ _

/-- The load of every partial product that has arrived. -/
theorem r_load {ℓ b d : ℕ} {inb hl} {Q : Vec F S16x128x128 .bf16 → sProp 𝕄}
    (h : St A c K (PhW A c ℓ 15 b d) ⊢ Q (glue fun d => Pc A ℓ d c)) :
    St A c K (PhW A c ℓ 15 b d)
      ⊢ WP c (Prog.lift (.load rM (Rect.unit (s := S16x128x128) ![0, 0, 0] S16x128x128.size inb).toLoadRect hl)) Q := by
  refine BIBase.Entails.trans (Q := iprop((rM.view.loc (Dev.tc c : Thread nD τ) ↦[rM.view.set]{fullShare} rM.view.rep (glue fun d => Pc A ℓ d c))
    ∗ ((rM.view.loc (Dev.tc c : Thread nD τ) ↦[rM.view.set]{fullShare} rM.view.rep (glue fun d => Pc A ℓ d c)) -∗ St A c K (PhW A c ℓ 15 b d)))) ?_ ?_
  · rw [← whole_of_slots, era_eq c (fun p => slot rM c p fullShare (Pc A ℓ p c))]
    unfold St PhW Own
    rw [Wt_end, pay_rsr]
    iintro ⟨#HC, HS, HO, ⟨⟨H1, H2⟩, H3, H4⟩, H5, H6, ⟨H7, H8, H9⟩, H10⟩
    iframe H1 H9
    iintro ⟨H1, H9⟩
    iframe
    iexact HC
  have hv : rM.view.readAt (Elt F) (Rect.unit (s := S16x128x128) ![0, 0, 0] S16x128x128.size inb).toLoadRect (rM.view.rep (glue fun d => Pc A ℓ d c))
      = glue fun d => Pc A ℓ d c :=
    (Memref.readAt_unit_zero (Elt F) cc0_scratch2 (funext fun a => by fin_cases a <;> rfl) inb _).trans (rep_glue _)
  unfold WP Prog.lift
  iintro ⟨H, HS⟩
  iapply (wp_load (defs := defs₀ (F := F)) 𝒱₀ (Dev.tc c) none Set.univ (m := rM) (hl := hl) (S := rM.view.set)
    (by rw [show rM.view.set = Finset.univ from View.set_whole cc0_scratch2]; exact Finset.subset_univ _)) $$ H
  iintro H
  rw [hv, wp_ret]
  imodintro
  iapply h
  iapply HS
  iexact H

/-! ## From a layer to the next -/

theorem next_layer {ℓ : ℕ} (hℓ : ℓ < 2) {G : sProp 𝕄} (h : St A c K (LS c (ℓ + 1)) ⊢ G) : St A c K (PhW A c ℓ 15 15 15) ⊢ G := by
  refine BIBase.Entails.trans ?_ h
  have hb : bigSep (Finset.univ.erase c) (fun d => back (F := F) ℓ c d)
      = iprop(bigSep (Finset.univ.erase c) (fun d => slotAny (F := F) xM d c) ∗ bigSep (Finset.univ.erase c) (fun d => reached ER (gcell d (.agr c)) (ℓ + 1))) := by
    rw [← bigSep_sep']
    exact bigSep_congr fun d _ => if_pos hℓ
  have hk : bigSep (Finset.Ico 0 15) (rsDone (F := F) c ℓ)
      = iprop(bigSep (Finset.Ico 0 15) (fun i => keep (F := F) c ℓ i) ∗ bigSep (Finset.univ.erase c) (fun d => atPos ER (gcell c (.agr d)) (ℓ + 1) ∅ 0)) := by
    unfold rsDone
    rw [bigSep_sep', bigSep_dn c (fun d => (atPos ER (gcell c (.agr d)) (ℓ + 1) ∅ 0 : sProp 𝕄))]
  have hr : bigSep (Finset.univ.erase c) (fun d => slot rM c d fullShare (Pc A ℓ d c)) ⊢ bigSep (Finset.univ.erase c) (fun d => slotAny rM c d) :=
    bigSep_mono fun d _ => slot_any rM c d _
  unfold St PhW LS Own Base
  rw [Wt_end, Wt_end, Wt_end, pay_rsr, hb, hk, agTodo_eq, rsTodo_eq, Lat_step c (show ℓ + 1 < 3 by omega)]
  iintro ⟨#HC, HS, HO, ⟨⟨H1, ⟨H2, #H3⟩⟩, H4, #H5⟩, ⟨H6, H7, #H8⟩, ⟨H9, H10, #H11⟩, ⟨H12, H13, H14⟩, ⟨-, H15⟩, ⟨⟨H16, H17, H18⟩, H19⟩, H20, HW⟩
  ihave H1 := hr $$ H1
  ihave H13 := (slot_any pM c c _) $$ H13
  ihave H14 := (slot_any rM c c _) $$ H14
  ihave H9 := (Entails.of_eq (show bigSep (Finset.univ.erase c) (pay (Xc A) (Pc A) c .ags ℓ) = bigSep (Finset.Ico 0 15) fun i => slot xM c c (shr (up c i)) (Xc A ℓ c) from
    (bigSep_up c fun d => slot xM c c (shr d) (Xc A ℓ c)).symm)) $$ H9
  ihave H12 := (Entails.of_eq (deal_peers c (Xc A ℓ c)).symm) $$ [H12 H9]
  · isplitl [H12]
    · iexact H12
    · iexact H9
  ihave H12 := (slot_any xM c c _) $$ H12
  ihave H6 := (Entails.of_eq (show bigSep (Finset.univ.erase c) (pay (Xc A) (Pc A) c .rss ℓ) = bigSep (Finset.univ.erase c) (fun d => slotAny pM c d) from rfl)) $$ H6
  iframe
  iframe H3 H5 H8 H11
  iexact HC

theorem last_layer {G : sProp 𝕄} (h : St A c K (Fin3 c) ⊢ G) : St A c K (PhW A c 2 15 15 15) ⊢ G := by
  refine BIBase.Entails.trans ?_ h
  have hk : bigSep (Finset.Ico 0 15) (rsDone (F := F) c 2)
      = iprop(bigSep (Finset.univ.erase c) (fun d => slotAny (F := F) xM c d) ∗ bigSep (Finset.univ.erase c) (fun d => atPos ER (gcell c (.agr d)) 3 ∅ 0)) := by
    unfold rsDone
    rw [bigSep_sep', ← bigSep_dn c (fun d => (atPos ER (gcell c (.agr d)) 3 ∅ 0 : sProp 𝕄)), ← bigSep_dn c (fun d => slotAny (F := F) xM c d)]
    rfl
  have hr : bigSep (Finset.univ.erase c) (fun d => slot rM c d fullShare (Pc A 2 d c)) ⊢ bigSep (Finset.univ.erase c) (fun d => slotAny rM c d) :=
    bigSep_mono fun d _ => slot_any rM c d _
  unfold St PhW Fin3 Own R0
  rw [Wt_end, Wt_end, Wt_end, pay_rsr, hk, era_eq c (fun p => slotAny xM c p), era_eq c (fun p => slotAny pM c p), era_eq c (fun p => slotAny rM c p),
    later_end]
  iintro ⟨#HC, HS, HO, ⟨⟨H1, -⟩, H4, -⟩, ⟨H6, H7, -⟩, ⟨H9, H10, -⟩, ⟨H12, H13, H14⟩, ⟨H15, H16⟩, -, ⟨H17, H18⟩, HW⟩
  ihave H1 := hr $$ H1
  ihave H13 := (slot_any pM c c _) $$ H13
  ihave H14 := (slot_any rM c c _) $$ H14
  ihave H9 := (Entails.of_eq (show bigSep (Finset.univ.erase c) (pay (Xc A) (Pc A) c .ags 2) = bigSep (Finset.Ico 0 15) fun i => slot xM c c (shr (up c i)) (Xc A 2 c) from
    (bigSep_up c fun d => slot xM c c (shr d) (Xc A 2 c)).symm)) $$ H9
  ihave H12 := (Entails.of_eq (deal_peers c (Xc A 2 c)).symm) $$ [H12 H9]
  · isplitl [H12]
    · iexact H12
    · iexact H9
  ihave H12 := (slot_any xM c c _) $$ H12
  ihave H6 := (Entails.of_eq (show bigSep (Finset.univ.erase c) (pay (Xc A) (Pc A) c .rss 2) = bigSep (Finset.univ.erase c) (fun d => slotAny pM c d) from rfl)) $$ H6
  iframe
  iexact HC

/-! ## The result -/

theorem out_load {ph : sProp (MT nD τ sig ℕ (Elt F) ℕ UU ℕ)} {inb hl} {Q : Vec F S128x128 .f32 → sProp 𝕄} (h : ∀ v, St A c K ph ⊢ Q v) :
    St A c K ph ⊢ WP c (Prog.lift (.load (Memref.whole cc0_stg7_0 : Memref sig .tc .vmem S128x128 .f32) (Rect.unit (s := S128x128) ![0, 0] S128x128.size inb).toLoadRect hl)) Q := by
  unfold WP Prog.lift
  refine BIBase.Entails.trans (Q := iprop(Out c ∗ (Out c -∗ St A c K ph))) ?_ ?_
  · unfold St
    iintro ⟨#HC, HS, HO, HP⟩
    iframe HO
    iintro HO
    iframe
    iexact HC
  unfold Out
  iintro ⟨⟨%V, H⟩, HS⟩
  iapply (wp_load (defs := defs₀ (F := F)) 𝒱₀ (Dev.tc c) none Set.univ (m := (Memref.whole cc0_stg7_0 : Memref sig .tc .vmem S128x128 .f32)) (hl := hl) (Finset.subset_univ _)) $$ H
  iintro H
  rw [wp_ret]
  imodintro
  iapply (h _)
  iapply HS
  iexists V
  iexact H

/-- The store of the result. -/
theorem out_store {ph : sProp (MT nD τ sig ℕ (Elt F) ℕ UU ℕ)} {inb} {w : Vec F S128x128 .f32} (hw : w = Red A 2 c) {hx hm} {Q : PUnit → sProp 𝕄}
    (h : iprop(Ctx (Xc A) (Pc A) K ∗ Stg c (A c) ∗ stg c cc0_stg7_0 (Red A 2 c) ∗ ph) ⊢ Q ⟨⟩) :
    St A c K ph ⊢ WP c (Prog.lift (.store (Memref.whole cc0_stg7_0 : Memref sig .tc .vmem S128x128 .f32) (Rect.unit (s := S128x128) ![0, 0] S128x128.size inb) w Finset.univ hx hm)) Q := by
  subst hw
  unfold WP Prog.lift
  unfold St Out
  iintro ⟨HC, HS, ⟨%V, H⟩, HP⟩
  iapply (wp_store (defs := defs₀ (F := F)) 𝒱₀ (Dev.tc c) none Set.univ (m := (Memref.whole cc0_stg7_0 : Memref sig .tc .vmem S128x128 .f32))
    (r := Rect.unit (s := S128x128) ![0, 0] S128x128.size inb) (Mk := Finset.univ) (hx := hx) (hm := hm) (f := V) (Finset.subset_univ _)) $$ H
  iintro H
  rw [wp_ret]
  imodintro
  ihave H := (Entails.of_eq (congrArg (fun f : cc0_stg7_0.ty.Contents (Elt F) => (((Dev.tc c : Thread nD τ).loc cc0_stg7_0 ↦{fullShare} f) : sProp 𝕄))
    (Memref.write_access_unit_zero_univ (Elt F) cc0_stg7_0 hz2 inb V (Red A 2 c)))) $$ H
  iapply h
  iframe

end Cert.MlpProof
end
-- ==== Proof.Walk.lean ====
/-
# The kernel's body on one device
-/
module

public import proofs.«01_k».proof.Proof.PhaseStepsC

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Dev nD → Ins F) (K : Dev nD × Cell → ℕ) {c : Dev nD}

attribute [local irreducible] LS PhA PhM PhB PhBw PhW PhBar Fin3 St

/-- One branch of the barrier, by the number of the peer. -/
theorem bar_step' {α : Type} (k : ℕ) (hk : k < 16) {b : Prop} [Decidable b] (hb : b ↔ (⟨k, hk⟩ : Dev nD) ≠ c) {n : b → Dev nD} (hn : ∀ h, n h = ⟨k, hk⟩)
    {sm : Sem sig} (hsm : sm = barSem) {rest : Pg F α} {R : α → sProp 𝕄} (h : St A c K (PhBar c (k + 1)) ⊢ WP c rest R) :
    St A c K (PhBar c k) ⊢ WP c (if h : b then (semSignalWord (n h) sm 1#32 >>= fun _ => rest) else rest) R :=
  bar_step A K ⟨k, hk⟩ hb hn hsm h

/-! ## The run of the kernel's body

The program is walked from operation to operation; what follows `<;>` settles the side conditions of a step: the device a
send names, the slot an access names, the semaphore a wait names, and the value stored. -/

section Body

variable {h0 h1 h2 h3 h4 h5 h6 h7 h8 h9 h10}

set_option maxRecDepth 10000 in
set_option maxHeartbeats 0 in
/-- The kernel on device `c`, from the barrier to the store of the result. -/
theorem body_walk {Q : PUnit → sProp 𝕄} (h : iprop(Ctx (Xc A) (Pc A) K ∗ Stg c (A c) ∗ stg c cc0_stg7_0 (Red A 2 c) ∗ Fin3 c) ⊢ Q ⟨⟩) :
    St A c K (PhBar c 0) ⊢ WP c (cc0_body (F := F) (Memref.whole cc0_stg0_0) h0 (Memref.whole cc0_stg1_0) h1 (Memref.whole cc0_stg2_0) h2
      (Memref.whole cc0_stg3_0) h3 (Memref.whole cc0_stg4_0) h4 (Memref.whole cc0_stg5_0) h5 (Memref.whole cc0_stg6_0) h6 (Memref.whole cc0_stg7_0) h7
      xM h8 pM h9 rM h10 cc0_scratch3 cc0_scratch4 cc0_scratch5 cc0_scratch6) Q := by
  repeat (first
    | (with_reducible refine bar_step' A K _ ?_ ?_ ?_ ?_ ?_) <;> [decide; (clear * -; revert c; decide +kernel); (intro _; clear * -; revert c; decide +kernel); rfl; skip]
    | with_reducible refine WP_pure ?_
    | with_reducible refine WP_device ?_
    | (with_reducible refine bar_wait A K ?_ ?_) <;> [rfl; skip]
    | with_reducible refine ld_x A K ?_
    | with_reducible refine ld_w0 A K ?_
    | with_reducible refine ld_o0 A K ?_
    | with_reducible refine ld_w1 A K ?_
    | with_reducible refine ld_o1 A K ?_
    | with_reducible refine ld_w2 A K ?_
    | with_reducible refine ld_o2 A K ?_
    | with_reducible refine ls_load A K (k0_off1_eq c) (fun _ => ?_)
    | (with_reducible refine ls_store A K ?_ (k0_off1_eq c) ?_ ?_) <;> [decide; rfl; skip]
    | (with_reducible refine ag_send A K ?_ ?_ ?_ ?_ ?_ (k0_off3_eq c) (k0_off3_eq c) ?_) <;> [decide; decide; (clear * -; revert c; decide +kernel); rfl; (clear * -; revert c; decide +kernel); skip]
    | with_reducible refine phA_end A K ?_
    | with_reducible refine m_load_x A K (k0_off1_eq c) ?_
    | with_reducible refine m_load_p A K (k0_off1_eq c) (fun _ => ?_)
    | (with_reducible refine m_store_p A K (k0_off1_eq c) ?_ ?_) <;> [rfl; skip]
    | with_reducible refine m_load_pv A K (k0_off1_eq c) ?_
    | with_reducible refine m_load_r A K (k0_off1_eq c) (fun _ => ?_)
    | (with_reducible refine m_store_r A K (k0_off1_eq c) ?_ ?_) <;> [exact shapeCast_shapeCast _ _ _; skip]
    | with_reducible refine phB_end A K ?_
    | (with_reducible refine agr_wait A K ?_ ?_ ?_ ?_ ?_) <;> [decide; decide; (clear * -; revert c; decide +kernel); rfl; skip]
    | (with_reducible refine w_load_x A K ?_ ?_) <;> [(clear * -; revert c; decide +kernel); skip]
    | (with_reducible refine w_load_p A K ?_ (fun _ => ?_)) <;> [(clear * -; revert c; decide +kernel); skip]
    | (with_reducible refine w_store_p A K ?_ ?_ ?_) <;> [(clear * -; revert c; decide +kernel); rfl; skip]
    | (with_reducible refine rs_send A K ?_ ?_ ?_ ?_ ?_ ?_ (k0_off3_eq c) ?_) <;> [decide; decide; (clear * -; revert c; decide +kernel); rfl; rfl; (clear * -; revert c; decide +kernel); skip]
    | with_reducible refine last_layer A K ?_
    | (with_reducible refine next_layer A K ?_ ?_) <;> [decide; skip]
    | with_reducible refine r_load A K ?_
    | (with_reducible refine rsr_wait A K ?_ ?_ ?_ ?_ ?_) <;> [decide; decide; rfl; rfl; skip]
    | (with_reducible refine rss_wait A K ?_ ?_ ?_ ?_ ?_) <;> [decide; decide; rfl; rfl; skip]
    | (with_reducible refine ags_wait A K ?_ ?_ ?_ ?_ ?_) <;> [decide; decide; rfl; rfl; skip]
    | with_reducible refine out_load A K (fun _ => ?_)
    | (with_reducible refine out_store A K ?_ ?_) <;> [rfl; skip]
    | with_reducible refine WP_bind ?_
    | unfold k0_part2
    | refine WP_bind ?_)
  exact h

end Body

end Cert.MlpProof
end
-- ==== Proof.Launch.lean ====
/-
# The launch

The body meets what the pipeline asks of it, and the run of the whole mesh follows.
-/
module

public import proofs.«01_k».proof.Proof.LaunchGhost
public import Idealize.ShloMosaic.Lib.Pipeline.CollectiveSegs
public import proofs.«01_k».proof.Proof.Walk
public import proofs.«01_k».proof.Proof.Gen.KernelIdeal.Launch
public import proofs.«01_k».proof.Proof.Gen.KernelIdeal.Points

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## What each point of the pipeline holds -/

/-- Device `c`'s operands, as the pipeline stages them. -/
def insOf (c : Dev nD) : Ins F where
  x := (win0_0.blk (0 : Fin 1)).view.read (Elt F) (m ((Dev.tc c : Thread nD τ).loc main_arg0))
  w0 := (win0_1.blk (0 : Fin 1)).view.read (Elt F) (m ((Dev.tc c : Thread nD τ).loc main_arg1))
  o0 := (win0_2.blk (0 : Fin 1)).view.read (Elt F) (m ((Dev.tc c : Thread nD τ).loc main_arg2))
  w1 := (win0_3.blk (0 : Fin 1)).view.read (Elt F) (m ((Dev.tc c : Thread nD τ).loc main_arg3))
  o1 := (win0_4.blk (0 : Fin 1)).view.read (Elt F) (m ((Dev.tc c : Thread nD τ).loc main_arg4))
  w2 := (win0_5.blk (0 : Fin 1)).view.read (Elt F) (m ((Dev.tc c : Thread nD τ).loc main_arg5))
  o2 := (win0_6.blk (0 : Fin 1)).view.read (Elt F) (m ((Dev.tc c : Thread nD τ).loc main_arg6))

abbrev XX : ℕ → Dev nD → Blk F := Xc (insOf m)
abbrev PP : ℕ → Dev nD → Dev nD → Blk F := Pc (insOf m)

/-- A device's positions at the start. -/
def poss (c : Dev nD) : sProp 𝕄 := bigSep Finset.univ fun k : Cell => atPos ER (gcell c k) 0 ∅ 0

/-- What a device starts with besides its buffers. -/
def start (c : Dev nD) : sProp 𝕄 :=
  iprop((∃ K, Ctx (XX m) (PP m) K) ∗ poss c ∗ (bigSep (Finset.univ.erase c) fun p => dutyTok ER (gcell p .bar) 0 c)
    ∗ cred (tallyAt (gcell c .bar) 0 15) ∗ Lat c 0)

/-- The three scratch buffers, at some contents. -/
def scr (c : Dev nD) : sProp 𝕄 :=
  iprop((∃ f : Buf (Elt F) ((Dev.tc c : Thread nD τ).loc cc0_scratch0), ((Dev.tc c : Thread nD τ).loc cc0_scratch0) ↦{fullShare} f)
    ∗ (∃ f : Buf (Elt F) ((Dev.tc c : Thread nD τ).loc cc0_scratch1), ((Dev.tc c : Thread nD τ).loc cc0_scratch1) ↦{fullShare} f)
    ∗ (∃ f : Buf (Elt F) ((Dev.tc c : Thread nD τ).loc cc0_scratch2), ((Dev.tc c : Thread nD τ).loc cc0_scratch2) ↦{fullShare} f))

def Φ₀ (c : Dev nD) : sProp 𝕄 := iprop(start m c ∗ scr c)
def Φ₁ (c : Dev nD) : sProp 𝕄 := iprop(scr c ∗ bigSep Finset.univ fun k : Cell => semVal (gcell c k) 0)

def dats (_ : Fin 1) (c : Dev nD) : Dat τ (Elt F) ℕ ℕ UU ℕ cfg0 c where
  A w := (s₀ m ρ).mem ((cfg0.win w).arr.view.loc (Dev.tc c : Thread nD τ))
  after w _ := match w with
    | ⟨0, _⟩ => (insOf m c).x
    | ⟨1, _⟩ => (insOf m c).w0
    | ⟨2, _⟩ => (insOf m c).o0
    | ⟨3, _⟩ => (insOf m c).w1
    | ⟨4, _⟩ => (insOf m c).o1
    | ⟨5, _⟩ => (insOf m c).w2
    | ⟨6, _⟩ => (insOf m c).o2
    | ⟨7, _⟩ => Red (insOf m) 2 c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

theorem scr_slots (M : Buf3) (hM : M.view.set = Finset.univ) (c : Dev nD) :
    iprop(∃ f : Buf (Elt F) (M.view.loc (Dev.tc c : Thread nD τ)), (M.view.loc (Dev.tc c : Thread nD τ)) ↦{fullShare} f)
      ⊢ bigSep Finset.univ fun p => slotAny (F := F) M c p := by
  iintro ⟨%f, H⟩
  iapply (slots_of_whole M c f)
  rw [hM]
  iexact H

theorem slots_scr (M : Buf3) (hM : M.view.set = Finset.univ) (c : Dev nD) :
    (bigSep Finset.univ fun p => slotAny (F := F) M c p)
      ⊢ iprop(∃ f : Buf (Elt F) (M.view.loc (Dev.tc c : Thread nD τ)), (M.view.loc (Dev.tc c : Thread nD τ)) ↦{fullShare} f) := by
  refine BIBase.Entails.trans (any_of_slots M c) ?_
  rw [hM]

theorem set_x : xM.view.set = Finset.univ := by rw [Memref.view_whole, View.set_whole]
theorem set_p : pM.view.set = Finset.univ := by rw [Memref.view_whole, View.set_whole]
theorem set_r : rM.view.set = Finset.univ := by rw [Memref.view_whole, View.set_whole]

/-- The start makes up the body's first phase. -/
theorem phBar_intro (c : Dev nD) :
    iprop(poss (F := F) c ∗ (bigSep (Finset.univ.erase c) fun p => dutyTok ER (gcell p .bar) 0 c)
      ∗ cred (tallyAt (gcell c .bar) 0 15) ∗ Lat c 0 ∗ scr c ∗ Owes c (O₀ c)) ⊢ PhBar c 0 := by
  unfold PhBar scr poss O₀
  rw [bigSep_cell, peers_zero]
  iintro ⟨⟨Ab, Aa, As, Ar, Ag⟩, Ht, Hc, Hl, ⟨Hx, Hp, Hr⟩, HO⟩
  ihave Hx := (scr_slots xM set_x c) $$ Hx
  ihave Hp := (scr_slots pM set_p c) $$ Hp
  ihave Hr := (scr_slots rM set_r c) $$ Hr
  ihave Hx := (Entails.of_eq (era_eq c _)) $$ Hx
  icases Hx with ⟨Hxc, Hx⟩
  ihave Hj := (Entails.of_eq (bigSep_sep' (Finset.univ.erase c) (fun p => (dutyTok ER (gcell p .bar) 0 c : sProp 𝕄)) (fun p => slotAny (F := F) xM c p)).symm) $$ [Ht Hx]
  · isplitl [Ht] <;> iassumption
  iframe

/-- The round a cell stands at after the run. -/
def endRound (c : Dev nD) (k : Cell) : ℕ := if k = .agr c then 0 else lastRound k

theorem endRound_spec (c : Dev nD) (k : Cell) (r : ℕ) (h : endRound c k ≤ r) : (Rd (XX m) (PP m)).duties (gcell c k) r = ∅ := by
  rw [Rd_duties]
  unfold endRound at h
  split at h
  · next e => subst e; exact duty_self c r
  · exact duty_later c k r h

/-- Every cell closed: its counter is back at zero. -/
theorem close_all (K : Dev nD × Cell → ℕ) (c : Dev nD) :
    iprop(Ctx (XX m) (PP m) K ∗ bigSep Finset.univ fun k : Cell => atPos ER (gcell c k) (endRound c k) ∅ 0)
      ⊢ |={Set.univ}=> bigSep Finset.univ fun k : Cell => semVal (gcell c k) 0 := by
  refine BIBase.Entails.trans (bigSep_with_persistent (R := Ctx (XX m) (PP m) K)
    (Ψ := fun k : Cell => iprop(|={Set.univ}=> semVal (gcell c k) 0)) fun k _ => ent ?_) (bigSep_fupd _ _)
  iintro ⟨#HC, Ha⟩
  iapply (Rounds.cell_close ER (Rd (XX m) (PP m)) (Set.mem_univ (K (c, k))) (fun h => h) (R := endRound c k) (endRound_spec m c k))
  isplitr
  · iapply (Ctx_inv (XX m) (PP m) K c k); iexact HC
  · iexact Ha

/-- After the last wait: buffers and positions. -/
theorem fin_exit (K : Dev nD × Cell → ℕ) (c : Dev nD) :
    iprop(Ctx (XX m) (PP m) K ∗ Fin3 c) ⊢ |={Set.univ}=> iprop(Φ₁ c ∗ Owes c 0) := by
  unfold Fin3 Φ₁ scr
  iintro ⟨#HC, Hx, Hp, Hr, Ab, Aa, As, Av, Ac, Ag, HO⟩
  ihave Hx := (slots_scr xM set_x c) $$ Hx
  ihave Hp := (slots_scr pM set_p c) $$ Hp
  ihave Hr := (slots_scr rM set_r c) $$ Hr
  have hpos : (bigSep Finset.univ fun k : Cell => (atPos ER (gcell c k) (endRound c k) ∅ 0 : sProp 𝕄))
      = iprop(atPos ER (gcell c .bar) 1 ∅ 0 ∗ atPos ER (gcell c .ags) 3 ∅ 0 ∗ atPos ER (gcell c .rss) 3 ∅ 0 ∗ atPos ER (gcell c .rsr) 3 ∅ 0
        ∗ atPos ER (gcell c (.agr c)) 0 ∅ 0 ∗ bigSep (Finset.univ.erase c) fun p => atPos ER (gcell c (.agr p)) 3 ∅ 0) := by
    rw [agr_split c, bigSep_congr fun p hp => by
      show atPos ER (gcell c (.agr p)) (endRound c (.agr p)) ∅ 0 = (atPos ER (gcell c (.agr p)) 3 ∅ 0 : sProp 𝕄)
      rw [endRound, if_neg (fun e => (Finset.mem_erase.mp hp).1 (Cell.agr.inj e))]; rfl]
    rw [show endRound c (.agr c) = 0 from if_pos rfl]
    rfl
  imod (close_all m K c) $$ [Ab Aa As Av Ac Ag] with Hz
  · isplitr; · iexact HC
    rw [hpos]
    iframe
  imodintro
  iframe

theorem owns_whole_eq (c : Dev nD) (b : Ref sig .tc) (X : b.ty.Contents (Elt F)) :
    (owns (Ix := ℕ) (Name := ℕ) (U := UU) (Lvl := ℕ) (Dev.tc c : Thread nD τ) (Memref.whole b) fullShare X : sProp 𝕄)
      = iprop(∃ f : Buf (Elt F) ((Dev.tc c : Thread nD τ).loc b), ⌜f = X⌝ ∗ stg c b f) := by
  unfold owns; simp only [Memref.view_whole, View.read_whole, View.set_whole]

abbrev own (c : Dev nD) (b : Ref sig .tc) (X : b.ty.Contents (Elt F)) : sProp 𝕄 :=
  iprop(∃ f : Buf (Elt F) ((Dev.tc c : Thread nD τ).loc b), ⌜f = X⌝ ∗ stg c b f)

def bodyPre (c : Dev nD) : sProp 𝕄 :=
  iprop(Φ₀ m c ∗ (dats m ρ 0 c).owesAt 0 t0_0.castSucc
    ∗ (∃ d, own c cc0_stg0_0 ((dats m ρ 0 c).before (0 : Fin 8) t0_0 d))
    ∗ (∃ d, own c cc0_stg1_0 ((dats m ρ 0 c).before (1 : Fin 8) t0_0 d))
    ∗ (∃ d, own c cc0_stg2_0 ((dats m ρ 0 c).before (2 : Fin 8) t0_0 d))
    ∗ (∃ d, own c cc0_stg3_0 ((dats m ρ 0 c).before (3 : Fin 8) t0_0 d))
    ∗ (∃ d, own c cc0_stg4_0 ((dats m ρ 0 c).before (4 : Fin 8) t0_0 d))
    ∗ (∃ d, own c cc0_stg5_0 ((dats m ρ 0 c).before (5 : Fin 8) t0_0 d))
    ∗ (∃ d, own c cc0_stg6_0 ((dats m ρ 0 c).before (6 : Fin 8) t0_0 d))
    ∗ (∃ d, own c cc0_stg7_0 ((dats m ρ 0 c).before (7 : Fin 8) t0_0 d)))

def bodyPost (c : Dev nD) : sProp 𝕄 :=
  iprop(Φ₁ c ∗ (dats m ρ 0 c).owesAt 0 t0_0.succ
    ∗ own c cc0_stg0_0 (insOf m c).x ∗ own c cc0_stg1_0 (insOf m c).w0 ∗ own c cc0_stg2_0 (insOf m c).o0 ∗ own c cc0_stg3_0 (insOf m c).w1
    ∗ own c cc0_stg4_0 (insOf m c).o1 ∗ own c cc0_stg5_0 (insOf m c).w2 ∗ own c cc0_stg6_0 (insOf m c).o2
    ∗ own c cc0_stg7_0 (Red (insOf m) 2 c))

theorem own_intro (c : Dev nD) (b : Ref sig .tc) (X : b.ty.Contents (Elt F)) : stg c b X ⊢ own c b X := by
  iintro H
  iexists X
  isplitr
  · ipureintro; rfl
  · iexact H

theorem own_elim (c : Dev nD) (b : Ref sig .tc) {D : Type} (Y : D → b.ty.Contents (Elt F)) (X : b.ty.Contents (Elt F)) (h : ∀ d, Y d = X) :
    iprop(∃ d, own c b (Y d)) ⊢ stg c b X := by
  iintro ⟨%d, %f, %hf, H⟩
  subst hf
  rw [h d]
  iexact H

theorem owes_start (c : Dev nD) : (dats m ρ 0 c).owesAt 0 t0_0.castSucc ⊢ Owes c (O₀ c) := by
  unfold Dat.owesAt Pipeline.owesWithin Owes
  iintro ⟨%W, %hW, HO⟩
  iexists W
  iexact HO

theorem owes_end (c : Dev nD) : Owes c 0 ⊢ (dats m ρ 0 c).owesAt 0 t0_0.succ := by
  unfold Dat.owesAt Pipeline.owesWithin Owes
  iintro ⟨%W, HO⟩
  iexists W
  isplitr
  · ipureintro; exact fun _ _ => Or.inl trivial
  · iexact HO

/-- What the walk ends with is what the pipeline takes back. -/
theorem body_exit (K : Dev nD × Cell → ℕ) (c : Dev nD) :
    iprop(Ctx (XX m) (PP m) K ∗ Stg c (insOf m c) ∗ stg c cc0_stg7_0 (Red (insOf m) 2 c) ∗ Fin3 c) ⊢ |={Set.univ}=> bodyPost m ρ c := by
  unfold Stg bodyPost
  iintro ⟨#HC, ⟨H0, H1, H2, H3, H4, H5, H6⟩, H7, HF⟩
  imod (fin_exit m K c) $$ [HF] with ⟨HΦ, HO⟩
  · isplitr; · iexact HC
    iexact HF
  ihave HO := (owes_end m ρ c) $$ HO
  ihave H0 := (own_intro c _ _) $$ H0
  ihave H1 := (own_intro c _ _) $$ H1
  ihave H2 := (own_intro c _ _) $$ H2
  ihave H3 := (own_intro c _ _) $$ H3
  ihave H4 := (own_intro c _ _) $$ H4
  ihave H5 := (own_intro c _ _) $$ H5
  ihave H6 := (own_intro c _ _) $$ H6
  ihave H7 := (own_intro c _ _) $$ H7
  imodintro
  iframe

/-- The body's run, between what the pipeline hands it and what it hands back. -/
theorem sound_body (c : Dev nD) :
    bodyPre m ρ c ⊢ WP c (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      xM (Memref.isWhole_whole _) pM (Memref.isWhole_whole _) rM (Memref.isWhole_whole _) cc0_scratch3 cc0_scratch4 cc0_scratch5 cc0_scratch6)
      fun _ => bodyPost m ρ c := by
  unfold bodyPre Φ₀ start
  iintro ⟨⟨⟨⟨%K, #HC⟩, Hp, Ht, Hc, Hl⟩, Hs⟩, HO, H0, H1, H2, H3, H4, H5, H6, H7⟩
  ihave HO := (owes_start m ρ c) $$ HO
  ihave Hph := (phBar_intro (F := F) c) $$ [Hp Ht Hc Hl Hs HO]
  · iframe
  ihave H0 := (own_elim c cc0_stg0_0 _ (insOf m c).x (fun d => by unfold Dat.before; rw [if_pos (fetch0_0 t0_0)]; rfl)) $$ H0
  ihave H1 := (own_elim c cc0_stg1_0 _ (insOf m c).w0 (fun d => by unfold Dat.before; rw [if_pos (fetch0_1 t0_0)]; rfl)) $$ H1
  ihave H2 := (own_elim c cc0_stg2_0 _ (insOf m c).o0 (fun d => by unfold Dat.before; rw [if_pos (fetch0_2 t0_0)]; rfl)) $$ H2
  ihave H3 := (own_elim c cc0_stg3_0 _ (insOf m c).w1 (fun d => by unfold Dat.before; rw [if_pos (fetch0_3 t0_0)]; rfl)) $$ H3
  ihave H4 := (own_elim c cc0_stg4_0 _ (insOf m c).o1 (fun d => by unfold Dat.before; rw [if_pos (fetch0_4 t0_0)]; rfl)) $$ H4
  ihave H5 := (own_elim c cc0_stg5_0 _ (insOf m c).w2 (fun d => by unfold Dat.before; rw [if_pos (fetch0_5 t0_0)]; rfl)) $$ H5
  ihave H6 := (own_elim c cc0_stg6_0 _ (insOf m c).o2 (fun d => by unfold Dat.before; rw [if_pos (fetch0_6 t0_0)]; rfl)) $$ H6
  iapply (wp_fupd frame (wpE (defs₀ (F := F)) 𝒱₀ (Dev.tc c) none) Set.univ)
  iapply (body_walk (insOf m) K (c := c) (Q := fun _ => iprop(|={Set.univ}=> bodyPost m ρ c)) (body_exit m ρ K c))
  unfold St Stg Out
  icases H7 with ⟨%d, %f, %hf, H7⟩
  isplitr; · iexact HC
  isplitl [H0 H1 H2 H3 H4 H5 H6]
  · iframe
  isplitl [H7]
  · iexists f; iexact H7
  · iexact Hph

theorem bigSep_W (Φ : Fin cfg0.W → sProp 𝕄) : bigSep Finset.univ Φ = iprop(Φ (0 : Fin 8) ∗ Φ (1 : Fin 8) ∗ Φ (2 : Fin 8) ∗ Φ (3 : Fin 8)
    ∗ Φ (4 : Fin 8) ∗ Φ (5 : Fin 8) ∗ Φ (6 : Fin 8) ∗ Φ (7 : Fin 8)) := bigSep_W0 Φ

theorem body_obligation (c : Dev nD) : BodyObligation (dats (F := F) m ρ 0 c) (defs₀ (F := F)) 𝒱₀ 0 Set.univ := fun t => by
  rw [fin_N0 t, bigSep_W, bigSep_W]
  simp only [owns_whole_eq]
  exact sound_body m ρ c

/-! ## The launch's resources -/

abbrev OwnCell : Type := {k : Cell // k ≠ .bar}
/-- The kernel's own semaphores: every cell's but the barrier's. -/
abbrev osem (k : OwnCell) : SemLoc sig := k.1.sem

theorem ownSemFacts : Pipeline.OwnSemFacts cfg0.spec osem where
  isScoped k := by
    obtain ⟨k, hk⟩ := k
    cases k with
    | bar => exact absurd rfl hk
    | agr p => exact (by decide +kernel : ∀ p : Dev nD, (Cell.agr p).sem.isScoped .tc = true) p
    | _ => rfl
  inj a b h := Subtype.ext (sem_inj h)
  disj k w s := by
    have h : ∀ (w : Fin 8) (s : Fin (cfg0.spec w).nbuf), kind (.dma ((cfg0.spec w).sem s)) = none := by decide +kernel
    intro e
    have := congrArg kind e
    rw [h w s] at this
    exact absurd ((kind_sem k.1).symm.trans this) (by simp)

theorem share_eq (c : Dev nD) (w : Fin cfg0.W) : (dats m ρ 0 c).share w = fullShare := by unfold Dat.share; split <;> rfl

/-- What the launch deals device `c`; -/
def G (c : Dev nD) : sProp 𝕄 :=
  iprop((bigSep Finset.univ fun k : Cell => roundState ER (Rd (XX m) (PP m)) (gcell c k) 0)
    ∗ (bigSep Finset.univ fun k : Cell => reached ER (gcell c k) 0) ∗ poss c ∗ toks c)

def facts (K : Dev nD × Cell → ℕ) : sProp 𝕄 :=
  iprop((bigSep Finset.univ fun p : Dev nD × Cell => cellInv ER (Rd (XX m) (PP m)) (K p) (gcell p.1 p.2))
    ∗ (bigSep Finset.univ fun p : Dev nD × Cell => reached ER (gcell p.1 p.2) 0))

instance facts_persistent (K : Dev nD × Cell → ℕ) : BI.Persistent (facts m K) := by unfold facts; infer_instance

/-- and what the first step makes of it. -/
def G' (c : Dev nD) : sProp 𝕄 := iprop((∃ K, facts m K) ∗ poss c ∗ toks c)

theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Cell => Φ (gcell c k) := by
    unfold theCells; rw [bigSep_map, bigSep_univ_prod]; rfl
  have hT : bigSep theToks (fun x => (dutyTok ER x.1 x.2.1 x.2.2 : sProp 𝕄)) = bigSep Finset.univ fun c : Dev nD => toks c := by
    unfold theToks toks tokens; rw [bigSep_map, bigSep_univ_prod]
    refine bigSep_congr fun c _ => ?_
    rw [bigSep_univ_prod]
    refine bigSep_congr fun t _ => ?_
    rw [bigSep_univ_prod]
    rfl
  iintro HX
  imod (Rounds.fund ER (Rd (XX m) (PP m)) theCells theToks) $$ HX with ⟨Hst, Hr, Hat, Htok⟩
  imodintro
  ihave Hst' := (Entails.of_eq (hX fun g => roundState ER (Rd (XX m) (PP m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  iframe

theorem unscoped_eq (c : Dev nD) : (unscopedSems0 c : sProp 𝕄) = semVal (gcell c .bar) 0 := by
  unfold unscopedSems0; rw [bigSep_eq_bigSepL_of_eq [SemLoc.reg barSem] (by decide) (by decide)]; rfl

theorem cells_own (Φ : Cell → sProp 𝕄) : bigSep Finset.univ Φ = iprop(Φ .bar ∗ bigSep Finset.univ fun k : OwnCell => Φ k.1) := by
  have h : (Finset.univ : Finset Cell) = insert .bar (Finset.univ.image (fun k : OwnCell => k.1)) := by decide +kernel
  rw [h, ins_eq (by decide +kernel), bigSep_image_of_injOn (fun a _ b _ h => Subtype.ext h)]

/-- All of a device's semaphores at zero, cell by cell. -/
theorem sems_eq (c : Dev nD) :
    (bigSep Finset.univ fun k : Cell => semVal (gcell c k) 0 : sProp 𝕄)
      = iprop(unscopedSems0 c ∗ Pipeline.ownSems0 (Ix := ℕ) (Name := ℕ) (U := UU) (Lvl := ℕ) (Val := Elt F) (τ := τ) osem c) := by
  rw [unscoped_eq, cells_own]; rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd (XX m) (PP m)) κ (gcell c k)))
          ∗ (bigSep Finset.univ fun k : Cell => reached ER (gcell c k) 0) ∗ poss c ∗ toks c) := by
  unfold G
  iintro ⟨Hos, Hus, Hst, Hr, Hat, Htok⟩
  imod (show iprop((bigSep Finset.univ fun k : Cell => semVal (gcell c k) 0) ∗ bigSep Finset.univ fun k : Cell => roundState ER (Rd (XX m) (PP m)) (gcell c k) 0)
      ⊢ (|={Set.univ}=> bigSep Finset.univ fun k => iprop(∃ κ : ℕ, cellInv ER (Rd (XX m) (PP m)) κ (gcell c k)) : sProp 𝕄) from by
        rw [← bigSep_sep']
        exact (bigSep_mono fun k _ => (Rounds.body_intro ER (Rd (XX m) (PP m)) (gcell c k)).trans inv_alloc).trans (bigSep_fupd _ _)) $$ [Hos Hus Hst] with Hinv
  · rw [sems_eq]
    iframe
  imodintro
  iframe

/-- The cells' invariants, shared by every device. -/
theorem regroup :
    (bigSep Finset.univ fun c : Dev nD => iprop((bigSep Finset.univ fun k : Cell => iprop(∃ κ : ℕ, cellInv ER (Rd (XX m) (PP m)) κ (gcell c k)))
          ∗ (bigSep Finset.univ fun k : Cell => reached ER (gcell c k) 0) ∗ poss c ∗ toks c) : sProp 𝕄)
      ⊢ bigSep Finset.univ (G' m) := by
  rw [bigSep_sep', bigSep_sep', ← bigSep_univ_prod (fun p : Dev nD × Cell => iprop(∃ κ : ℕ, cellInv ER (Rd (XX m) (PP m)) κ (gcell p.1 p.2))),
    ← bigSep_univ_prod (fun p : Dev nD × Cell => (reached ER (gcell p.1 p.2) 0 : sProp 𝕄))]
  iintro ⟨HI, #HR, Hrest⟩
  ihave HK := (BI.bigSep_exists_pi Finset.univ (fun (p : Dev nD × Cell) (κ : ℕ) => (cellInv ER (Rd (XX m) (PP m)) κ (gcell p.1 p.2) : sProp 𝕄))) $$ HI
  icases HK with ⟨%K, #HI⟩
  have hG (c : Dev nD) : iprop(facts m K ∗ iprop(poss c ∗ toks c)) ⊢ G' m c := by
    unfold G'
    iintro ⟨#HF, H1, H2⟩
    isplitr
    · iexists K; iexact HF
    · iframe
  iapply (bigSep_with_persistent (R := facts m K) (S := Finset.univ) (Φ := fun c => iprop(poss c ∗ toks c)) fun c _ => hG c)
  isplitr
  · unfold facts
    isplitl; · iexact HI
    iexact HR
  · iexact Hrest

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem toks_eq (c : Dev nD) : toks (F := F) c = iprop(tokens c 0 ∗ tokens c 1 ∗ tokens c 2 ∗ tokens c 3 ∗ tokens c 4) :=
  bigSep_univ_eq_bigSepL [0, 1, 2, 3, 4] (by decide) (by decide) _

theorem start_intro (c : Dev nD) :
    iprop(Pipeline.unscopedRestP Pipeline.Prefetch.none cfg0.spec c (fun b => m ((Dev.tc c : Thread nD τ).loc b)) ∗ levAts L lv
        ∗ Pipeline.launchCred O₀ c ∗ prngReg c (ρ c) ∗ G' m c)
      ⊢ |={Set.univ}=> iprop(start m c ∗ emp) := by
  unfold G' start facts
  rw [toks_eq]
  iintro ⟨-, #Hlev, Hcr, -, ⟨⟨%K, #HF⟩, Hp, T0, T1, T2, T3, T4⟩⟩
  ihave Hc := (creds (F := F) c) $$ Hcr
  icases Hc with ⟨Hb, Hc⟩
  ihave Ta := (tokens_ag (F := F) c) $$ [T1 T2]
  · iframe
  ihave Ts := (tokens_rs (F := F) c) $$ [T3 T4]
  · iframe
  ihave Hl := (lat_intro (F := F) c) $$ [Ta Ts Hc]
  · iframe
  ihave T0 := (tokens_bar (F := F) c) $$ T0
  imodintro
  isplitl
  · isplitr
    · iexists K
      unfold Ctx Lev
      icases HF with ⟨#HI, #HR⟩
      isplitr; · iexact HI
      isplitr; · iexact HR
      iexact Hlev
    · iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [sems_eq]
  iintro ⟨Hr, Hu, Hz⟩
  isplitl [Hu]; · iexact Hu
  isplitl [Hz]; · iexact Hz
  iexact Hr

theorem above_start (c : Dev nD) (t : Fin (cfg0.N + 1)) : Above 0 ((dats m ρ 0 c).owed t) := by
  rcases t with ⟨_ | n, ht⟩
  · exact (above_barO c (by decide)).add (above_later c (by decide))
  · exact Above.zero 0

theorem waits (c : Dev nD) : (levAts L lv : sProp 𝕄) ⊢ Pipeline.cellsWaits cfgs (dats m ρ) 0 0 c :=
  Pipeline.cellsWaits_intro cfgs (dats m ρ) 0 0 c fun w s t =>
    mayWait c _ 0 (by decide) _ (by
      have h : ∀ (w : Fin 8) (s : Fin (cfg0.spec w).nbuf), kind (.dma ((cfg0.spec w).sem s)) = none := by decide +kernel
      have h0 : lv ((c : Thread nD τ), .dma ((cfg0.spec w).sem s)) 0 = 0 := by
        unfold lv
        rw [show kind (((c : Thread nD τ), SemLoc.dma ((cfg0.spec w).sem s)) : GSem nD τ sig).2 = none from h w s]
      rw [show lv ((c : Thread nD τ), .dma (((cfgs 0).win w).sem s)) 0 = 0 from h0]
      exact above_start m ρ c t)

/-! ## The run -/

def finalA (c : Dev nD) (w : Fin cfg0.W) : Buf (Elt F) ((cfg0.win w).arr.view.loc (Dev.tc c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (Dev.tc c : Thread nD τ)) = finalA m ρ c w

set_option maxRecDepth 8000 in
/-- From any memory with zero counters, for any float values: every weakly fair execution of @main on the sixteen devices
    terminates, each device's windows end at the contents named, and every semaphore counter reads zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((Dev.tc c : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A run's end, read at the arrays of @main. -/
theorem run_args : θ_run defs (onTc (τ := τ) (main (F := F))) ⟨m, fun _ => 0, ρ⟩ (fun r => (∀ c : Dev nD,
    r.2.mem ((c.tc : Thread nD τ).loc main_v1) = finalA m ρ c (7 : Fin 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun _ h => ⟨fun c => ⟨h.1 c (7 : Fin 8),
    (h.1 c (0 : Fin 8)).trans ((dats m ρ 0 c).arrAt_in (0 : Fin 8) rfl _),
    (h.1 c (1 : Fin 8)).trans ((dats m ρ 0 c).arrAt_in (1 : Fin 8) rfl _),
    (h.1 c (2 : Fin 8)).trans ((dats m ρ 0 c).arrAt_in (2 : Fin 8) rfl _),
    (h.1 c (3 : Fin 8)).trans ((dats m ρ 0 c).arrAt_in (3 : Fin 8) rfl _),
    (h.1 c (4 : Fin 8)).trans ((dats m ρ 0 c).arrAt_in (4 : Fin 8) rfl _),
    (h.1 c (5 : Fin 8)).trans ((dats m ρ 0 c).arrAt_in (5 : Fin 8) rfl _),
    (h.1 c (6 : Fin 8)).trans ((dats m ρ 0 c).arrAt_in (6 : Fin 8) rfl _)⟩, h.2⟩) (run_main m ρ)

end Cert.MlpProof
end
-- ==== Proof.Frames.lean ====
/- The three frames: every run ends, leaves the arguments as they were and every counter at zero. The
   kernel's run is proved once for any float values, so both of its frames are that run. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch

@[expose] public section

noncomputable section

namespace Cert.MlpProof

open Idealize.ShloMosaic Idealize.SL.Sem Cert.KernelIdeal

/-- The kernel's run, read at its arguments alone. -/
theorem run_keeps {F : FTy → Type} [FloatOps F] (m : (ℓ : Loc nD τ sig) → Buf (Elt F) ℓ) (ρ : Dev nD → PrngReg) :
    θ_run Cert.KernelIdeal.defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run Cert.KernelIdeal.defs _ _).mono (fun _ h => ⟨fun c => (h.1 c).2, h.2⟩) (run_args m ρ)

/-- The printed kernel's body is the body the run above is about. -/
theorem body_same : Cert.Kernel.cc0_body (F := Bits) = Cert.KernelIdeal.cc0_body (F := Bits) := rfl

theorem bodies_same : Cert.Kernel.defs₀ (F := Bits) = Cert.KernelIdeal.defs₀ (F := Bits) := by
  unfold Cert.Kernel.defs₀ Cert.KernelIdeal.defs₀
  refine congrArg Defs.onTc ?_
  funext ℓ a
  obtain ⟨_ | _, hℓ⟩ := ℓ
  · rw [body_same]
  · exact absurd hℓ (Nat.not_lt.2 (Nat.le_add_left _ _))

/-- So are the tables of bodies with their pipelines. -/
theorem defs_same : Cert.Kernel.defs (F := Bits) = Cert.KernelIdeal.defs (F := Bits) :=
  congrArg (Pipeline.defs (Cert.KernelIdeal.pcfgs (F := Bits))) bodies_same

/-- The kernel as printed keeps its arguments and its counters. -/
theorem frame_kernel : Cert.quiescent_Kernel := fun m ρ _ => by
  rw [defs_same]
  exact run_keeps (F := Bits) m ρ

/-- The kernel at exact values keeps its arguments and its counters. -/
theorem frame_kernelIdeal : Cert.quiescent_KernelIdeal := fun m ρ _ => run_keeps (F := Ideal) m ρ

/-- The reference is straight-line host code, and the machine it runs on has no semaphore. -/
theorem frame_reference : Cert.quiescent_ReferenceIdeal := fun m ρ _ =>
  (θ_run Cert.ReferenceIdeal.defs _ _).mono (fun r h => ⟨fun c => (h c).2,
    sem_eq_zero_of_no_sems (by decide) r.2⟩) (Cert.ReferenceIdeal.Value.run (F := Ideal) m ρ)

end Cert.MlpProof
end
-- ==== Proof.Value.lean ====
/-
# The value

At exact values a device's chunk is `relu (x · W) · O` over its own 256 hidden columns, and the sum over the
sixteen devices is the product over all 4096. So the activations a device holds before layer `ℓ` are its 128 rows
of the reference's activations, layer after layer.
-/
module

public import proofs.«01_k».proof.Proof.Launch
public import proofs.«01_k».proof.Proof.Gen.ReferenceIdeal
public import proofs.«01_k».proof.Proof.Gen.ReferenceIdeal.Run
public import Idealize.ShloMosaic.Lib.Layout
public import Idealize.ShloMosaic.Lib.ValueIdx
public import Idealize.ShloMosaic.Lib.MatmulPlain
public import Idealize.ShloMosaic.Lib.StackMember
public import Idealize.ShloMosaic.Lib.Pipeline.Value
public import Idealize.ShloMosaic.Lib.Pipeline.ValueKit.Geometry
public import Idealize.ShloMosaic.PureOps.Ideal.Laws

@[expose] public section

noncomputable section

namespace Cert.MlpProof

open Cert.KernelIdeal Cert.KernelIdeal.Gen
open Idealize.ShloMosaic Idealize.ShloMosaic.TcCoe Idealize.ShloMosaic.ValueIdx Idealize.ShloMosaic.StackMember
open scoped BigOperators

/-! ## The kernel's operations at an entry -/

/-- What the kernels compare with: the word `0` read as an extended real. -/
abbrev z0 : EReal := Ideal.ofBits .f32 0x00000000#32

theorem cast_in (x : Vec Ideal S128x128 .f32) (r c : Fin 128) : k0_pay1 x (ix3 0 r c) = x (ix2 r c) := by
  unfold k0_pay1
  rw [shapeCast_self]
  refine (shapeCast_addUnit_apply ![128, 128] _ _ (ix3 0 r c)).trans ?_
  refine congrArg x ?_
  funext a; match a with | ⟨0, _⟩ => rfl | ⟨1, _⟩ => rfl

theorem cast_red (x : Vec Ideal S128x128 .f32) (r c : Fin 128) : k0_pay24 (F := Ideal) x (ix3 0 r c) = x (ix2 r c) := by
  unfold k0_pay24
  refine (shapeCast_addUnit_apply ![128, 128] _ _ (ix3 0 r c)).trans ?_
  refine congrArg x ?_
  funext a; match a with | ⟨0, _⟩ => rfl | ⟨1, _⟩ => rfl

/-- One chunk at an entry. -/
theorem chunk_apply (B : Blk Ideal) (W : Vec Ideal S128x256 .f32) (O : Vec Ideal S256x128 .f32) (r c : Fin 128) :
    k0_pay4 B W O (ix3 0 r c)
      = ∑ k : Fin 256, max (∑ j : Fin 128, B (ix3 0 r j) * W (ix2 j k)) z0 * O (ix2 k c) := by
  unfold k0_pay4
  refine (shapeCast_addUnit_apply ![128, 128] _ _ (ix3 0 r c)).trans ?_
  have e : (fun a : Fin 2 => (ix3 (n0 := 1) 0 r c) a.succ) = ix2 r c := by
    funext a; match a with | ⟨0, _⟩ => rfl | ⟨1, _⟩ => rfl
  rw [shapeCast_self, shapeCast_self]
  refine (congrArg _ e).trans ?_
  refine (Ideal.matmul_plain_apply (φ₁ := .f32) (φ₂ := .f32) (M := 128) (K := 256) (N := 128) none _ O _ r c).trans ?_
  rw [show constant (F := Ideal) S128x128 .f32 0x00000000#32 (ix2 r c) = 0 from Ideal.ofBits_zero_f32, zero_add]
  refine Finset.sum_congr rfl fun k _ => congrArg (· * O (ix2 k c)) ?_
  refine congrArg (max · z0) ?_
  refine (Ideal.matmul_plain_apply (φ₁ := .f32) (φ₂ := .f32) (M := 128) (K := 128) (N := 256) none _ W _ r k).trans ?_
  rw [show constant (F := Ideal) S128x256 .f32 0x00000000#32 (ix2 r k) = 0 from Ideal.ofBits_zero_f32, zero_add]
  refine Finset.sum_congr rfl fun j _ => congrArg (· * W (ix2 j k)) ?_
  refine (shapeCast_dropUnit_apply ![128, 128] B _ (ix2 r j)).trans ?_
  refine congrArg B ?_
  funext a; match a with | ⟨0, _⟩ => rfl | ⟨1, _⟩ => rfl | ⟨2, _⟩ => rfl

/-- The sum of the sixteen blocks at an entry. -/
theorem red_apply (Y : Dev nD → Blk Ideal) (r c : Fin 128) :
    k0_pay23 (glue Y) (ix2 r c) = ∑ d : Dev nD, Y d (ix3 0 r c) := by
  unfold k0_pay23
  refine (Ideal.multiReduction_add_single _ _ _ _ _ _).trans ?_
  refine Finset.sum_congr rfl fun d _ => ?_
  show glue Y _ = _
  unfold glue
  refine congrArg (Y d) ?_
  funext a
  match a with | ⟨0, _⟩ => rfl | ⟨1, _⟩ => rfl | ⟨2, _⟩ => rfl

/-! ## The reference, layer by layer -/

/-- One layer of the reference. -/
def layer (X : FVec Ideal Cert.ReferenceIdeal.S2048x128 .f32) (W : FVec Ideal Cert.ReferenceIdeal.S128x4096 .f32)
    (O : FVec Ideal Cert.ReferenceIdeal.S4096x128 .f32) : FVec Ideal Cert.ReferenceIdeal.S2048x128 .f32 :=
  Host.dotGeneral Cert.ReferenceIdeal.dot_S2048x4096_S4096x128_S2048x128_1_0_0_1_n_n none
    (maximumf (Host.dotGeneral Cert.ReferenceIdeal.dot_S2048x128_S128x4096_S2048x4096_1_0_0_1_n_n none X W)
      (broadcastInDim Cert.ReferenceIdeal.S2048x4096 ![] Cert.ReferenceIdeal.Facts₀.bcast_S_S2048x4096
        (constant Cert.ReferenceIdeal.S_ .f32 0x00000000#32))) O

theorem layer_apply (X : FVec Ideal Cert.ReferenceIdeal.S2048x128 .f32)
    (W : FVec Ideal Cert.ReferenceIdeal.S128x4096 .f32) (O : FVec Ideal Cert.ReferenceIdeal.S4096x128 .f32)
    (r : Fin 2048) (c : Fin 128) :
    layer X W O (ix2 r c) = ∑ k : Fin 4096, max (∑ j : Fin 128, X (ix2 r j) * W (ix2 j k)) z0 * O (ix2 k c) := by
  unfold layer
  refine (dotGeneral_plain_apply (φ₁ := .f32) (φ₂ := .f32) (m := 2048) (k := 4096) (n := 128) none _ O r c).trans ?_
  refine Finset.sum_congr rfl fun k _ => congrArg (· * O (ix2 k c)) ?_
  refine congrArg (max · z0) ?_
  exact dotGeneral_plain_apply (φ₁ := .f32) (φ₂ := .f32) (m := 2048) (k := 128) (n := 4096) none X W r k

/-! ## Rows and hidden columns, by device -/

/-- Row `r` of device `d` in the whole array. -/
def rowOf (d : Dev nD) (r : Fin 128) : Fin 2048 := ⟨d.val * 128 + r.val, by
  have h : d.val < 16 := d.isLt
  omega⟩

/-- Hidden column `k` of device `d` among all. -/
def colOf (d : Dev nD) (k : Fin 256) : Fin 4096 := ⟨d.val * 256 + k.val, by
  have h : d.val < 16 := d.isLt
  omega⟩

/-- A sum over all hidden columns, device by device. -/
theorem sum_cols (f : Fin 4096 → EReal) : ∑ k, f k = ∑ d : Dev nD, ∑ k : Fin 256, f (colOf d k) := by
  rw [← Equiv.sum_comp (finProdFinEquiv (m := 16) (n := 256)) f, Fintype.sum_prod_type]
  refine Finset.sum_congr rfl fun d _ => Finset.sum_congr rfl fun k _ => congrArg f (Fin.ext ?_)
  show k.val + 256 * d.val = d.val * 256 + k.val
  omega

/-! ## The devices' activations are the reference's rows -/

section Layers

variable (A : Dev nD → Ins Ideal) (x : FVec Ideal Cert.ReferenceIdeal.S2048x128 .f32)
  (W : ℕ → FVec Ideal Cert.ReferenceIdeal.S128x4096 .f32) (O : ℕ → FVec Ideal Cert.ReferenceIdeal.S4096x128 .f32)

/-- The reference's activations before layer `ℓ`. -/
def acts : ℕ → FVec Ideal Cert.ReferenceIdeal.S2048x128 .f32
  | 0 => x
  | ℓ + 1 => layer (acts ℓ) (W ℓ) (O ℓ)

/-- The devices' operands are the blocks of whole arrays. -/
structure Blocks : Prop where
  rows : ∀ d r c, (A d).x (ix2 r c) = x (ix2 (rowOf d r) c)
  wcols : ∀ ℓ d j k, (A d).win ℓ (ix2 j k) = W ℓ (ix2 j (colOf d k))
  orows : ∀ ℓ d k c, (A d).wout ℓ (ix2 k c) = O ℓ (ix2 (colOf d k) c)

variable {A x W O}

/-- If a device's activations are its rows, so is the sum it receives. -/
theorem red_step (hb : Blocks A x W O) (ℓ : ℕ) (s : Dev nD) (r c : Fin 128)
    (ih : ∀ j, Xc A ℓ s (ix3 0 r j) = acts x W O ℓ (ix2 (rowOf s r) j)) :
    Red A ℓ s (ix2 r c) = acts x W O (ℓ + 1) (ix2 (rowOf s r) c) := by
  show _ = layer _ _ _ _
  rw [layer_apply, sum_cols]
  unfold Red
  rw [red_apply]
  refine Finset.sum_congr rfl fun d _ => ?_
  unfold Pc
  rw [chunk_apply]
  refine Finset.sum_congr rfl fun k _ => ?_
  rw [hb.orows]
  refine congrArg (fun y => max y z0 * _) (Finset.sum_congr rfl fun j _ => ?_)
  rw [ih, hb.wcols]

theorem acts_rows (hb : Blocks A x W O) : ∀ (ℓ : ℕ) (s : Dev nD) (r j : Fin 128),
    Xc A ℓ s (ix3 0 r j) = acts x W O ℓ (ix2 (rowOf s r) j)
  | 0, s, r, j => (cast_in _ r j).trans (hb.rows s r j)
  | ℓ + 1, s, r, j => (cast_red _ r j).trans (red_step hb ℓ s r j fun j' => acts_rows hb ℓ s r j')

/-- The last layer's sum on device `s` is the device's rows of the reference's result. -/
theorem red_rows (hb : Blocks A x W O) (ℓ : ℕ) (s : Dev nD) (r c : Fin 128) :
    Red A ℓ s (ix2 r c) = acts x W O (ℓ + 1) (ix2 (rowOf s r) c) :=
  red_step hb ℓ s r c fun j => acts_rows hb ℓ s r j

end Layers

/-! ## The arrays of @main -/

section Arrays

variable {F : FTy → Type} [FloatOps F] (m : (ℓ : Loc nD τ sig) → Buf (Elt F) ℓ) (ρ : Dev nD → PrngReg)

/-- The result array ends at the sum of the last layer. -/
theorem final_out (c : Dev nD) : finalA m ρ c (7 : Fin 8) = Red (insOf m) 2 c :=
  (dats m ρ 0 c).arrAt_eq_of_after_last (7 : Fin 8) t0_0 (by decide +kernel) (Red (insOf m) 2 c) (fun j => rfl)

/-- A window over a whole array has its indices at their own places. -/
theorem emb_whole (w : Pipeline.Window sig grid0) (h : ∀ a, w.index t0_0 a = 0) (y : (w.xblock (grid0.coords t0_0)).Idx) :
    (w.rect t0_0).emb y = fun a => ⟨(y a).val,
      (Pipeline.Window.rect_emb_val_of_index_zero w t0_0 a (h a) y) ▸ ((w.rect t0_0).emb y a).isLt⟩ :=
  funext fun a => Fin.ext (Pipeline.Window.rect_emb_val_of_index_zero w t0_0 a (h a) y)

theorem ins_x (c : Dev nD) : (insOf m c).x = m ((c.tc : Thread nD τ).loc main_arg0) :=
  funext fun y => congrArg (m ((c.tc : Thread nD τ).loc main_arg0)) (emb_whole win0_0 (fun _ => rfl) y)
theorem ins_w0 (c : Dev nD) : (insOf m c).w0 = m ((c.tc : Thread nD τ).loc main_arg1) :=
  funext fun y => congrArg (m ((c.tc : Thread nD τ).loc main_arg1)) (emb_whole win0_1 (fun _ => rfl) y)
theorem ins_o0 (c : Dev nD) : (insOf m c).o0 = m ((c.tc : Thread nD τ).loc main_arg2) :=
  funext fun y => congrArg (m ((c.tc : Thread nD τ).loc main_arg2)) (emb_whole win0_2 (fun _ => rfl) y)
theorem ins_w1 (c : Dev nD) : (insOf m c).w1 = m ((c.tc : Thread nD τ).loc main_arg3) :=
  funext fun y => congrArg (m ((c.tc : Thread nD τ).loc main_arg3)) (emb_whole win0_3 (fun _ => rfl) y)
theorem ins_o1 (c : Dev nD) : (insOf m c).o1 = m ((c.tc : Thread nD τ).loc main_arg4) :=
  funext fun y => congrArg (m ((c.tc : Thread nD τ).loc main_arg4)) (emb_whole win0_4 (fun _ => rfl) y)
theorem ins_w2 (c : Dev nD) : (insOf m c).w2 = m ((c.tc : Thread nD τ).loc main_arg5) :=
  funext fun y => congrArg (m ((c.tc : Thread nD τ).loc main_arg5)) (emb_whole win0_5 (fun _ => rfl) y)
theorem ins_o2 (c : Dev nD) : (insOf m c).o2 = m ((c.tc : Thread nD τ).loc main_arg6) :=
  funext fun y => congrArg (m ((c.tc : Thread nD τ).loc main_arg6)) (emb_whole win0_6 (fun _ => rfl) y)

end Arrays

/-! ## The devices against the reference -/

section Claim

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

/-- The reference's arrays are those of its one device. -/
abbrev refLoc (b : Ref Cert.ReferenceIdeal.sig .tc) : Loc Cert.ReferenceIdeal.nD Cert.ReferenceIdeal.τ Cert.ReferenceIdeal.sig :=
  ((0 : Dev Cert.ReferenceIdeal.nD).tc : Thread Cert.ReferenceIdeal.nD Cert.ReferenceIdeal.τ).loc b

/-- The reference's first weights, by layer. -/
def wins : ℕ → FVec Ideal Cert.ReferenceIdeal.S128x4096 .f32
  | 0 => m' (refLoc Cert.ReferenceIdeal.main_arg1)
  | 1 => m' (refLoc Cert.ReferenceIdeal.main_arg3)
  | _ => m' (refLoc Cert.ReferenceIdeal.main_arg5)

/-- The reference's second weights, by layer. -/
def wouts : ℕ → FVec Ideal Cert.ReferenceIdeal.S4096x128 .f32
  | 0 => m' (refLoc Cert.ReferenceIdeal.main_arg2)
  | 1 => m' (refLoc Cert.ReferenceIdeal.main_arg4)
  | _ => m' (refLoc Cert.ReferenceIdeal.main_arg6)

/-- The reference's result. -/
def refOut : FVec Ideal Cert.ReferenceIdeal.S2048x128 .f32 :=
  acts (m' (refLoc Cert.ReferenceIdeal.main_arg0)) (wins m') (wouts m') 3

/-- Each device holds its blocks of the reference's arguments. -/
def Agree : Prop := ∀ c : Dev nD,
  m ((c.tc : Thread nD τ).loc main_arg0) = Layout.block ⟨2, ![128, 128]⟩ ⟨2, ![2048, 128]⟩ 0 16 c (m' (refLoc Cert.ReferenceIdeal.main_arg0))
    ∧ m ((c.tc : Thread nD τ).loc main_arg1) = Layout.block ⟨2, ![128, 256]⟩ ⟨2, ![128, 4096]⟩ 1 16 c (m' (refLoc Cert.ReferenceIdeal.main_arg1))
    ∧ m ((c.tc : Thread nD τ).loc main_arg2) = Layout.block ⟨2, ![256, 128]⟩ ⟨2, ![4096, 128]⟩ 0 16 c (m' (refLoc Cert.ReferenceIdeal.main_arg2))
    ∧ m ((c.tc : Thread nD τ).loc main_arg3) = Layout.block ⟨2, ![128, 256]⟩ ⟨2, ![128, 4096]⟩ 1 16 c (m' (refLoc Cert.ReferenceIdeal.main_arg3))
    ∧ m ((c.tc : Thread nD τ).loc main_arg4) = Layout.block ⟨2, ![256, 128]⟩ ⟨2, ![4096, 128]⟩ 0 16 c (m' (refLoc Cert.ReferenceIdeal.main_arg4))
    ∧ m ((c.tc : Thread nD τ).loc main_arg5) = Layout.block ⟨2, ![128, 256]⟩ ⟨2, ![128, 4096]⟩ 1 16 c (m' (refLoc Cert.ReferenceIdeal.main_arg5))
    ∧ m ((c.tc : Thread nD τ).loc main_arg6) = Layout.block ⟨2, ![256, 128]⟩ ⟨2, ![4096, 128]⟩ 0 16 c (m' (refLoc Cert.ReferenceIdeal.main_arg6))

theorem row_block {α : Type} (v : (⟨2, ![2048, 128]⟩ : Shape).Idx → α) (d : Dev nD) (r c : Fin 128) :
    Layout.block ⟨2, ![128, 128]⟩ ⟨2, ![2048, 128]⟩ 0 16 d v (by decide) (ix2 r c) = v (ix2 (rowOf d r) c) :=
  congrArg v (funext fun a => match a with | ⟨0, _⟩ => rfl | ⟨1, _⟩ => rfl)

theorem win_block {α : Type} (v : (⟨2, ![128, 4096]⟩ : Shape).Idx → α) (d : Dev nD) (j : Fin 128) (k : Fin 256) :
    Layout.block ⟨2, ![128, 256]⟩ ⟨2, ![128, 4096]⟩ 1 16 d v (by decide) (ix2 j k) = v (ix2 j (colOf d k)) :=
  congrArg v (funext fun a => match a with | ⟨0, _⟩ => rfl | ⟨1, _⟩ => rfl)

theorem wout_block {α : Type} (v : (⟨2, ![4096, 128]⟩ : Shape).Idx → α) (d : Dev nD) (k : Fin 256) (c : Fin 128) :
    Layout.block ⟨2, ![256, 128]⟩ ⟨2, ![4096, 128]⟩ 0 16 d v (by decide) (ix2 k c) = v (ix2 (colOf d k) c) :=
  congrArg v (funext fun a => match a with | ⟨0, _⟩ => rfl | ⟨1, _⟩ => rfl)

variable {m m'}

theorem blocks_of (h : Agree m m') :
    Blocks (insOf m) (m' (refLoc Cert.ReferenceIdeal.main_arg0)) (wins m') (wouts m') where
  rows d r c := (congrFun ((ins_x m d).trans (h d).1) (ix2 r c)).trans (row_block _ d r c)
  wcols ℓ d j k := match ℓ with
    | 0 => (congrFun ((ins_w0 m d).trans (h d).2.1) (ix2 j k)).trans (win_block _ d j k)
    | 1 => (congrFun ((ins_w1 m d).trans (h d).2.2.2.1) (ix2 j k)).trans (win_block _ d j k)
    | _ + 2 => (congrFun ((ins_w2 m d).trans (h d).2.2.2.2.2.1) (ix2 j k)).trans (win_block _ d j k)
  orows ℓ d k c := match ℓ with
    | 0 => (congrFun ((ins_o0 m d).trans (h d).2.2.1) (ix2 k c)).trans (wout_block _ d k c)
    | 1 => (congrFun ((ins_o1 m d).trans (h d).2.2.2.2.1) (ix2 k c)).trans (wout_block _ d k c)
    | _ + 2 => (congrFun ((ins_o2 m d).trans (h d).2.2.2.2.2.2) (ix2 k c)).trans (wout_block _ d k c)

/-- Device `c` ends holding its rows of the reference's result. -/
theorem out_block (h : Agree m m') (c : Dev nD) :
    finalA m ρ c (7 : Fin 8) = Layout.block ⟨2, ![128, 128]⟩ ⟨2, ![2048, 128]⟩ 0 16 c (refOut m') := by
  rw [final_out]
  funext i
  obtain ⟨r, l, rfl⟩ : ∃ (r l : Fin 128), i = ix2 r l := ⟨i 0, i 1, eq_ix2 i⟩
  exact (red_rows (blocks_of h) 2 c r l).trans (row_block (refOut m') c r l).symm

end Claim

end Cert.MlpProof
end
-- ==== Proof.Algebraic.lean ====
/- The value claim: both programs run, and device `c` ends holding its 128 rows of the reference's result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value

@[expose] public section

noncomputable section

namespace Cert.MlpProof

open Idealize.ShloMosaic Idealize.SL.Sem Cert.KernelIdeal

/-- At exact values the kernel computes the reference, block by block. -/
theorem algebraic_kernel : Cert.algebraic_KernelIdeal_ReferenceIdeal := fun m ρ m' ρ' _ hag =>
  ⟨refOut m',
    (θ_run Cert.KernelIdeal.defs _ _).mono (fun _ h c => ⟨(h.1 c).1.trans (out_block ρ hag c), (h.1 c).2⟩)
      (run_args (F := Ideal) m ρ),
    (θ_run Cert.ReferenceIdeal.defs _ _).mono (fun _ h => h 0) (Cert.ReferenceIdeal.Value.run (F := Ideal) m' ρ')⟩

end Cert.MlpProof
end
-- ==== Proof.lean ====
/- The certificate: the frames of the kernel as printed, of the kernel at exact values and of the
   reference, that the second is the first with no operation replaced, and that it computes the third. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the statement states. -/
theorem claim : Cert.Claim := ⟨Cert.Kernel.Gen.facts, Cert.KernelIdeal.Gen.facts, Cert.ReferenceIdeal.Gen.facts,
  Cert.MlpProof.frame_kernel, Cert.MlpProof.frame_kernelIdeal, Cert.MlpProof.frame_reference, trivial,
  Cert.MlpProof.algebraic_kernel⟩

end Cert.Proof

end
